-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S1 : Shape := ⟨1, ![1]⟩
abbrev S4x1024x4096 : Shape := ⟨3, ![4, 1024, 4096]⟩
abbrev S2x512x2048 : Shape := ⟨3, ![2, 512, 2048]⟩
abbrev S2x256x4096 : Shape := ⟨3, ![2, 256, 4096]⟩
abbrev S14 : Shape := ⟨1, ![14]⟩
abbrev S2 : Shape := ⟨1, ![2]⟩
abbrev S_ : Shape := ⟨0, ![]⟩
abbrev S1x256x4096 : Shape := ⟨3, ![1, 256, 4096]⟩
abbrev S256x4096 : Shape := ⟨2, ![256, 4096]⟩
abbrev S1x512x2048 : Shape := ⟨3, ![1, 512, 2048]⟩
abbrev S512x2048 : Shape := ⟨2, ![512, 2048]⟩
abbrev S1x512x4096 : Shape := ⟨3, ![1, 512, 4096]⟩
abbrev S512x4096 : Shape := ⟨2, ![512, 4096]⟩
abbrev S1x128x4096 : Shape := ⟨3, ![1, 128, 4096]⟩
abbrev S128x4096 : Shape := ⟨2, ![128, 4096]⟩
abbrev S256x2048 : Shape := ⟨2, ![256, 2048]⟩
abbrev S1x256x2048 : Shape := ⟨3, ![1, 256, 2048]⟩
abbrev S128x2048 : Shape := ⟨2, ![128, 2048]⟩
abbrev S1x128x2048 : Shape := ⟨3, ![1, 128, 2048]⟩

abbrev nBuf : Space → Nat
  | .hbm => 5
  | .vmem => 5
  | .smem => 2
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4x1024x4096, .fp8e5m2⟩
  | .local _ .vmem, ⟨1, _⟩ => ⟨S4096x2048, .fp8e5m2⟩
  | .local _ .vmem, ⟨2, _⟩ => ⟨S2x512x2048, .f32⟩
  | .local _ .vmem, ⟨3, _⟩ => ⟨S2x256x4096, .f32⟩
  | .local _ .vmem, ⟨4, _⟩ => ⟨S2x512x2048, .f32⟩
  | .local _ .smem, ⟨0, _⟩ => ⟨S1, .f32⟩
  | .local _ .smem, ⟨1, _⟩ => ⟨S1, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_26 : BitVec 32 := 1#32
  let v39 : BitVec 32 := Scalar.muli v13 c1_i32_26
  let v40 : BitVec 32 := Scalar.addi c0_i32_27 v39
  v40.toNat
def k0_dev2 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_29 : BitVec 32 := 1#32
  let v41 : BitVec 32 := Scalar.muli v24 c1_i32_29
  let v42 : BitVec 32 := Scalar.addi c0_i32_30 v41
  v42.toNat
def k0_dev3 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_50 : BitVec 32 := 1#32
  let v59 : BitVec 32 := Scalar.muli v24 c1_i32_50
  let v60 : BitVec 32 := Scalar.addi c0_i32_51 v59
  v60.toNat
def k0_dev4 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_60 : BitVec 32 := 1#32
  let v69 : BitVec 32 := Scalar.muli v13 c1_i32_60
  let v70 : BitVec 32 := Scalar.addi c0_i32_61 v69
  v70.toNat
def k0_dev5 (d0 : Dev nD) : Nat :=
  let c0_i32_86 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_85 : BitVec 32 := 1#32
  let v95 : BitVec 32 := Scalar.muli v24 c1_i32_85
  let v96 : BitVec 32 := Scalar.addi c0_i32_86 v95
  v96.toNat
def k0_dev6 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_94 : BitVec 32 := 1#32
  let v105 : BitVec 32 := Scalar.muli v13 c1_i32_94
  let v106 : BitVec 32 := Scalar.addi c0_i32_95 v105
  v106.toNat
def k0_dev7 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_115 : BitVec 32 := 1#32
  let v126 : BitVec 32 := Scalar.muli v24 c1_i32_115
  let v127 : BitVec 32 := Scalar.addi c0_i32_116 v126
  v127.toNat
def k0_dev8 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_124 : BitVec 32 := 1#32
  let v136 : BitVec 32 := Scalar.muli v13 c1_i32_124
  let v137 : BitVec 32 := Scalar.addi c0_i32_125 v136
  v137.toNat
def k0_dev9 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_145 : BitVec 32 := 1#32
  let v157 : BitVec 32 := Scalar.muli v24 c1_i32_145
  let v158 : BitVec 32 := Scalar.addi c0_i32_146 v157
  v158.toNat
def k0_dev10 (d0 : Dev nD) : Nat :=
  let c0_i32_155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_154 : BitVec 32 := 1#32
  let v167 : BitVec 32 := Scalar.muli v13 c1_i32_154
  let v168 : BitVec 32 := Scalar.addi c0_i32_155 v167
  v168.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_287 : BitVec 32 := 1024#32
  let v307 : BitVec 32 := Scalar.muli v2 c1024_i32_287
  let c0_i32_296 : BitVec 32 := 0#32
  ![v307.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_302 : BitVec 32 := 1024#32
  let v324 : BitVec 32 := Scalar.muli v2 c1024_i32_302
  let c512_i32_303 : BitVec 32 := 512#32
  let v325 : BitVec 32 := Scalar.addi v324 c512_i32_303
  let c0_i32_313 : BitVec 32 := 0#32
  ![v325.toNat, 0]
def k0_dev11 (d0 : Dev nD) : Nat :=
  let c0_i32_340 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_339 : BitVec 32 := 1#32
  let v356 : BitVec 32 := Scalar.muli v24 c1_i32_339
  let v357 : BitVec 32 := Scalar.addi c0_i32_340 v356
  v357.toNat
def k0_dev12 (d0 : Dev nD) : Nat :=
  let c0_i32_349 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_348 : BitVec 32 := 1#32
  let v366 : BitVec 32 := Scalar.muli v24 c1_i32_348
  let v367 : BitVec 32 := Scalar.addi c0_i32_349 v366
  v367.toNat
def k0_dev13 (d0 : Dev nD) : Nat :=
  let c0_i32_358 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_357 : BitVec 32 := 1#32
  let v376 : BitVec 32 := Scalar.muli v24 c1_i32_357
  let v377 : BitVec 32 := Scalar.addi c0_i32_358 v376
  v377.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_365 : BitVec 32 := 1024#32
  let v388 : BitVec 32 := Scalar.muli v13 c1024_i32_365
  let c0_i32_380 : BitVec 32 := 0#32
  ![v388.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_406 : BitVec 32 := 1024#32
  let v426 : BitVec 32 := Scalar.muli v24 c1024_i32_406
  let c0_i32_421 : BitVec 32 := 0#32
  ![v426.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_447 : BitVec 32 := 1024#32
  let v464 : BitVec 32 := Scalar.muli v13 c1024_i32_447
  let c512_i32_448 : BitVec 32 := 512#32
  let v465 : BitVec 32 := Scalar.addi v464 c512_i32_448
  let c0_i32_463 : BitVec 32 := 0#32
  ![v465.toNat, 0]
def k0_dev14 (d0 : Dev nD) : Nat :=
  let c0_i32_490 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_489 : BitVec 32 := 1#32
  let v501 : BitVec 32 := Scalar.muli v13 c1_i32_489
  let v502 : BitVec 32 := Scalar.addi c0_i32_490 v501
  v502.toNat
def k0_dev15 (d0 : Dev nD) : Nat :=
  let c0_i32_499 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_498 : BitVec 32 := 1#32
  let v511 : BitVec 32 := Scalar.muli v13 c1_i32_498
  let v512 : BitVec 32 := Scalar.addi c0_i32_499 v511
  v512.toNat
def k0_dev16 (d0 : Dev nD) : Nat :=
  let c0_i32_508 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_507 : BitVec 32 := 1#32
  let v521 : BitVec 32 := Scalar.muli v13 c1_i32_507
  let v522 : BitVec 32 := Scalar.addi c0_i32_508 v521
  v522.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_515 : BitVec 32 := 1024#32
  let v533 : BitVec 32 := Scalar.muli v24 c1024_i32_515
  let c512_i32_516 : BitVec 32 := 512#32
  let v534 : BitVec 32 := Scalar.addi v533 c512_i32_516
  let c0_i32_531 : BitVec 32 := 0#32
  ![v534.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_534 : BitVec 32 := 2#32
  let v554 : BitVec 32 := Scalar.addi v2 c2_i32_534
  let c4_i32_535 : BitVec 32 := 4#32
  let c0_i32_536 : BitVec 32 := 0#32
  let v555 : BitVec 1 := Scalar.cmpi .eq c4_i32_535 c0_i32_536
  let c1_i32_537 : BitVec 32 := 1#32
  let v556 : BitVec 32 := Scalar.select v555 c1_i32_537 c4_i32_535
  let v557 : BitVec 32 := Scalar.remsi v554 v556
  let c0_i32_539 : BitVec 32 := 0#32
  let v559 : BitVec 1 := Scalar.cmpi .slt v557 c0_i32_539
  let c0_i32_540 : BitVec 32 := 0#32
  let v560 : BitVec 1 := Scalar.cmpi .slt v556 c0_i32_540
  let v561 : BitVec 1 := Scalar.xori v559 v560
  let c0_i32_538 : BitVec 32 := 0#32
  let v558 : BitVec 1 := Scalar.cmpi .ne v557 c0_i32_538
  let v562 : BitVec 1 := Scalar.andi v561 v558
  let v563 : BitVec 32 := Scalar.addi v557 v556
  let v564 : BitVec 32 := Scalar.select v562 v563 v557
  let c1024_i32_541 : BitVec 32 := 1024#32
  let v565 : BitVec 32 := Scalar.muli v564 c1024_i32_541
  let c0_i32_568 : BitVec 32 := 0#32
  ![v565.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_534 : BitVec 32 := 2#32
  let v554 : BitVec 32 := Scalar.addi v2 c2_i32_534
  let c4_i32_535 : BitVec 32 := 4#32
  let c0_i32_536 : BitVec 32 := 0#32
  let v555 : BitVec 1 := Scalar.cmpi .eq c4_i32_535 c0_i32_536
  let c1_i32_537 : BitVec 32 := 1#32
  let v556 : BitVec 32 := Scalar.select v555 c1_i32_537 c4_i32_535
  let v557 : BitVec 32 := Scalar.remsi v554 v556
  let c0_i32_539 : BitVec 32 := 0#32
  let v559 : BitVec 1 := Scalar.cmpi .slt v557 c0_i32_539
  let c0_i32_540 : BitVec 32 := 0#32
  let v560 : BitVec 1 := Scalar.cmpi .slt v556 c0_i32_540
  let v561 : BitVec 1 := Scalar.xori v559 v560
  let c0_i32_538 : BitVec 32 := 0#32
  let v558 : BitVec 1 := Scalar.cmpi .ne v557 c0_i32_538
  let v562 : BitVec 1 := Scalar.andi v561 v558
  let v563 : BitVec 32 := Scalar.addi v557 v556
  let v564 : BitVec 32 := Scalar.select v562 v563 v557
  let c1024_i32_541 : BitVec 32 := 1024#32
  let v565 : BitVec 32 := Scalar.muli v564 c1024_i32_541
  let c512_i32_584 : BitVec 32 := 512#32
  let v605 : BitVec 32 := Scalar.addi v565 c512_i32_584
  let c0_i32_599 : BitVec 32 := 0#32
  ![v605.toNat, 0]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_534 : BitVec 32 := 2#32
  let v554 : BitVec 32 := Scalar.addi v2 c2_i32_534
  let c4_i32_535 : BitVec 32 := 4#32
  let c0_i32_536 : BitVec 32 := 0#32
  let v555 : BitVec 1 := Scalar.cmpi .eq c4_i32_535 c0_i32_536
  let c1_i32_537 : BitVec 32 := 1#32
  let v556 : BitVec 32 := Scalar.select v555 c1_i32_537 c4_i32_535
  let v557 : BitVec 32 := Scalar.remsi v554 v556
  let c0_i32_539 : BitVec 32 := 0#32
  let v559 : BitVec 1 := Scalar.cmpi .slt v557 c0_i32_539
  let c0_i32_540 : BitVec 32 := 0#32
  let v560 : BitVec 1 := Scalar.cmpi .slt v556 c0_i32_540
  let v561 : BitVec 1 := Scalar.xori v559 v560
  let c0_i32_538 : BitVec 32 := 0#32
  let v558 : BitVec 1 := Scalar.cmpi .ne v557 c0_i32_538
  let v562 : BitVec 1 := Scalar.andi v561 v558
  let v563 : BitVec 32 := Scalar.addi v557 v556
  let v564 : BitVec 32 := Scalar.select v562 v563 v557
  let c1024_i32_541 : BitVec 32 := 1024#32
  let v565 : BitVec 32 := Scalar.muli v564 c1024_i32_541
  let c256_i32_615 : BitVec 32 := 256#32
  let v635 : BitVec 32 := Scalar.addi v565 c256_i32_615
  let c0_i32_630 : BitVec 32 := 0#32
  ![v635.toNat, 0]
def k0_off10 (d0 : Dev nD) (c512_i32_646 : BitVec 32) (c256_i32_647 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_534 : BitVec 32 := 2#32
  let v554 : BitVec 32 := Scalar.addi v2 c2_i32_534
  let c4_i32_535 : BitVec 32 := 4#32
  let c0_i32_536 : BitVec 32 := 0#32
  let v555 : BitVec 1 := Scalar.cmpi .eq c4_i32_535 c0_i32_536
  let c1_i32_537 : BitVec 32 := 1#32
  let v556 : BitVec 32 := Scalar.select v555 c1_i32_537 c4_i32_535
  let v557 : BitVec 32 := Scalar.remsi v554 v556
  let c0_i32_539 : BitVec 32 := 0#32
  let v559 : BitVec 1 := Scalar.cmpi .slt v557 c0_i32_539
  let c0_i32_540 : BitVec 32 := 0#32
  let v560 : BitVec 1 := Scalar.cmpi .slt v556 c0_i32_540
  let v561 : BitVec 1 := Scalar.xori v559 v560
  let c0_i32_538 : BitVec 32 := 0#32
  let v558 : BitVec 1 := Scalar.cmpi .ne v557 c0_i32_538
  let v562 : BitVec 1 := Scalar.andi v561 v558
  let v563 : BitVec 32 := Scalar.addi v557 v556
  let v564 : BitVec 32 := Scalar.select v562 v563 v557
  let c1024_i32_541 : BitVec 32 := 1024#32
  let v565 : BitVec 32 := Scalar.muli v564 c1024_i32_541
  let v665 : BitVec 32 := Scalar.addi v565 c512_i32_646
  let v666 : BitVec 32 := Scalar.addi v665 c256_i32_647
  let c0_i32_662 : BitVec 32 := 0#32
  ![v666.toNat, 0]
def k0_off10_at (r : Fin 2) : BitVec 32 × BitVec 32 :=
  if r.val < 1 then
    (512#32, 256#32)
  else
    (256#32, 128#32)
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_534 : BitVec 32 := 2#32
  let v554 : BitVec 32 := Scalar.addi v2 c2_i32_534
  let c4_i32_535 : BitVec 32 := 4#32
  let c0_i32_536 : BitVec 32 := 0#32
  let v555 : BitVec 1 := Scalar.cmpi .eq c4_i32_535 c0_i32_536
  let c1_i32_537 : BitVec 32 := 1#32
  let v556 : BitVec 32 := Scalar.select v555 c1_i32_537 c4_i32_535
  let v557 : BitVec 32 := Scalar.remsi v554 v556
  let c0_i32_539 : BitVec 32 := 0#32
  let v559 : BitVec 1 := Scalar.cmpi .slt v557 c0_i32_539
  let c0_i32_540 : BitVec 32 := 0#32
  let v560 : BitVec 1 := Scalar.cmpi .slt v556 c0_i32_540
  let v561 : BitVec 1 := Scalar.xori v559 v560
  let c0_i32_538 : BitVec 32 := 0#32
  let v558 : BitVec 1 := Scalar.cmpi .ne v557 c0_i32_538
  let v562 : BitVec 1 := Scalar.andi v561 v558
  let v563 : BitVec 32 := Scalar.addi v557 v556
  let v564 : BitVec 32 := Scalar.select v562 v563 v557
  let c1024_i32_541 : BitVec 32 := 1024#32
  let v565 : BitVec 32 := Scalar.muli v564 c1024_i32_541
  let c512_i32_707 : BitVec 32 := 512#32
  let v727 : BitVec 32 := Scalar.addi v565 c512_i32_707
  let c256_i32_708 : BitVec 32 := 256#32
  let v728 : BitVec 32 := Scalar.addi v727 c256_i32_708
  let c128_i32_709 : BitVec 32 := 128#32
  let v729 : BitVec 32 := Scalar.addi v728 c128_i32_709
  let c0_i32_724 : BitVec 32 := 0#32
  ![v729.toNat, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Bands.lean ====
/-
# Boxes of a buffer, and reading a buffer whose contents are given by coordinates

Every window the kernel loads, stores or copies is a unit-stride rectangle of a whole buffer, sometimes with its leading
unit axis dropped. This module names the elements of such a rectangle (`box`), says how boxes split, and reads contents
that are a function of the element's coordinates (`N2`, `N3`) through such windows.
-/
module

public import proofs.«01_k».proof.Proof.Gen.KernelIdeal
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.RingGemm

open Cert.KernelIdeal Cert.KernelIdeal.Gen
open Idealize.ShloMosaic
open Idealize.ShloMosaic.TcCoe
open Idealize.SL Idealize.SL.RA Idealize.SL.BI

/-- The elements of the unit-stride rectangle at `off` of sizes `size`. -/
def box {s : Shape} (off size : Fin s.rank → ℕ) : Finset s.Idx :=
  Finset.univ.filter fun i => ∀ a, off a ≤ (i a).val ∧ (i a).val < off a + size a

theorem mem_box {s : Shape} {off size : Fin s.rank → ℕ} {i : s.Idx} :
    i ∈ box off size ↔ ∀ a, off a ≤ (i a).val ∧ (i a).val < off a + size a := by
  simp [box]

theorem unit_set {s : Shape} (off size : Fin s.rank → ℕ) (inb) : (Rect.unit (s := s) off size inb).set = box off size := by
  ext i; rw [Rect.mem_set_unit, mem_box]

/-- The window cut out of a whole buffer is the box, -/
theorem slice_set (b : Ref sig .tc) (off size : Fin b.ty.shape.rank → ℕ) (inb) (hr) :
    ((Memref.whole b).slice (Rect.unit off size inb) hr).view.set = box off size :=
  (View.set_slice_whole b (Rect.unit off size inb)).trans (unit_set _ _ _)

/-- and dropping its unit axis keeps the elements. -/
theorem squeeze_set (b : Ref sig .tc) (off size : Fin b.ty.shape.rank → ℕ) (inb) (hr) {s' : Shape} (hq) :
    (((Memref.whole b).slice (Rect.unit off size inb) hr).squeeze s' hq).view.set = box off size :=
  (View.set_reshape _ _).trans (slice_set b off size inb hr)

/-- Two boxes abutting on axis `a` make up the box around both. -/
theorem box_cut {s : Shape} {off size size₁ off₂ size₂ : Fin s.rank → ℕ} (a : Fin s.rank)
    (h₁ : ∀ b, b ≠ a → size₁ b = size b ∧ off₂ b = off b ∧ size₂ b = size b)
    (h₂ : off₂ a = off a + size₁ a) (h₃ : size a = size₁ a + size₂ a) :
    box off size = box off size₁ ∪ box off₂ size₂ ∧ Disjoint (box off size₁) (box off₂ size₂) := by
  constructor
  · ext i
    rw [Finset.mem_union, mem_box, mem_box, mem_box]
    constructor
    · intro h
      by_cases hc : (i a).val < off a + size₁ a
      · left; intro b
        by_cases hb : b = a
        · subst hb; exact ⟨(h b).1, hc⟩
        · rw [(h₁ b hb).1]; exact h b
      · right; intro b
        by_cases hb : b = a
        · subst hb; have := h b; omega
        · rw [(h₁ b hb).2.1, (h₁ b hb).2.2]; exact h b
    · rintro (h | h) b
      · by_cases hb : b = a
        · subst hb; have := h b; omega
        · have := h b; rw [(h₁ b hb).1] at this; exact this
      · by_cases hb : b = a
        · subst hb; have := h b; omega
        · have := h b; rw [(h₁ b hb).2.1, (h₁ b hb).2.2] at this; exact this
  · rw [Finset.disjoint_left]
    intro i hi hj
    have h1 := mem_box.mp hi a
    have h2 := mem_box.mp hj a
    omega

/-! ## Contents by coordinates -/

section Coords
variable {Val : EltTy → Type} {sp : Space} {e : EltTy}

/-- The memref's contents `f` are `g` of the two coordinates; -/
def N2 {D : Fin 2 → ℕ} (M : Memref sig .tc sp ⟨2, D⟩ e) (f : M.view.ty.Contents Val) (g : ℕ → ℕ → Val e) : Prop :=
  ∀ i, M.view.read Val f i = g (i 0).val (i 1).val

/-- of the three coordinates. -/
def N3 {D : Fin 3 → ℕ} (M : Memref sig .tc sp ⟨3, D⟩ e) (f : M.view.ty.Contents Val) (g : ℕ → ℕ → ℕ → Val e) : Prop :=
  ∀ i, M.view.read Val f i = g (i 0).val (i 1).val (i 2).val

theorem N2.load {D : Fin 2 → ℕ} {M : Memref sig .tc sp ⟨2, D⟩ e} {f : M.view.ty.Contents Val} {g : ℕ → ℕ → Val e} (h : N2 M f g)
    (off size : Fin 2 → ℕ) (inb) (x : (Rect.unit (s := ⟨2, D⟩) off size inb).shape.Idx) :
    M.view.readAt Val (Rect.unit (s := ⟨2, D⟩) off size inb).toLoadRect f x = g (off 0 + (x 0).val) (off 1 + (x 1).val) := by
  refine (h _).trans ?_
  show g (off 0 + 1 * (x 0).val) (off 1 + 1 * (x 1).val) = _
  rw [Nat.one_mul, Nat.one_mul]

theorem N3.load {D : Fin 3 → ℕ} {M : Memref sig .tc sp ⟨3, D⟩ e} {f : M.view.ty.Contents Val} {g : ℕ → ℕ → ℕ → Val e} (h : N3 M f g)
    (off size : Fin 3 → ℕ) (inb) (x : (Rect.unit (s := ⟨3, D⟩) off size inb).shape.Idx) :
    M.view.readAt Val (Rect.unit (s := ⟨3, D⟩) off size inb).toLoadRect f x
      = g (off 0 + (x 0).val) (off 1 + (x 1).val) (off 2 + (x 2).val) := by
  refine (h _).trans ?_
  show g (off 0 + 1 * (x 0).val) (off 1 + 1 * (x 1).val) (off 2 + 1 * (x 2).val) = _
  rw [Nat.one_mul, Nat.one_mul, Nat.one_mul]

/-- Through a window of a rank-two buffer, -/
theorem N2.slice {D : Fin 2 → ℕ} {M : Memref sig .tc sp ⟨2, D⟩ e} {f : M.view.ty.Contents Val} {g : ℕ → ℕ → Val e} (h : N2 M f g)
    (off size : Fin 2 → ℕ) (inb) (hr) (x : (Rect.unit (s := ⟨2, D⟩) off size inb).shape.Idx) :
    (M.slice (Rect.unit (s := ⟨2, D⟩) off size inb) hr).view.read Val f x = g (off 0 + (x 0).val) (off 1 + (x 1).val) :=
  h.load off size inb x

/-- through a one-slot window of a rank-three buffer with the slot's axis dropped. -/
theorem N3.squeeze {D : Fin 3 → ℕ} {M : Memref sig .tc sp ⟨3, D⟩ e} {f : M.view.ty.Contents Val} {g : ℕ → ℕ → ℕ → Val e} (h : N3 M f g)
    (off : Fin 3 → ℕ) (d : Fin 2 → ℕ) (inb) (hr) (hq) (hc : (⟨3, Matrix.vecCons 1 d⟩ : Shape).ShapeCasts ⟨2, d⟩) (x : (⟨2, d⟩ : Shape).Idx) :
    ((M.slice (Rect.unit (s := ⟨3, D⟩) off (Matrix.vecCons 1 d) inb) hr).squeeze ⟨2, d⟩ hq).view.read Val f x
      = g (off 0) (off 1 + (x 0).val) (off 2 + (x 1).val) := by
  rw [Memref.read_squeeze_slice M _ hr hq hc f, shapeCast_dropUnit_apply, h.load]
  rfl

end Coords

end Cert.RingGemm

end
-- ==== Proof.Protocol.lean ====
/-
# The protocol of the ring: devices, chunks, contents, cells, schedule and levels

Four devices stand on a ring. Each casts its block of `x` to `fp8e5m2` into slot 3 (`OWN`) of its gather buffer, sends
it in four chunks to both neighbours (slots 0 and 1 there), and passes half of what it received on to the far
neighbour (slot 2 there). Fourteen remote copies leave each device, numbered as the kernel numbers their semaphores;
`csrc`, `cdst`, `clo`, `cn`, `cright` tabulate, for copy `i`, its source slot, target slot, first row, number of rows
and direction.

Each device has a barrier cell, fourteen send cells and fourteen receive cells, each of one round:

* the barrier cell is paid one unit by each neighbour, and with it the neighbour's target rows of the copies that the
  device makes to that neighbour;
* receive cell `i` is paid by the landing of copy `i`, which hands over the target rows holding the gathered contents;
* send cell `i` is paid when copy `i` has read its source, and hands the source share back.
-/
module

public import proofs.«01_k».proof.Proof.Bands
public import proofs.«01_k».proof.Proof.Gen.KernelIdeal.Skeleton
public import proofs.«01_k».proof.Proof.Gen.KernelIdeal.Launch
public import Idealize.ShloMosaic.Lib.ValueLayout

@[expose] public section

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]

/-! ## The algebra: the pipeline's cells, the ring's cells, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring cells' component. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local copies' component. -/
abbrev EC : UEmb Counters (MT nD τ sig Unit (Elt F) ℕ UU ℕ) := countersEmb (U := UU)

variable (m : (ℓ : Loc nD τ sig) → Buf (Elt F) ℓ) (ρ : Dev nD → PrngReg)

/-! ## The ring of devices -/

set_option backward.proofsInPublic true in
/-- The device `k` places further round the ring. -/
def fwd (k : ℕ) (c : Dev nD) : Dev nD := ⟨(c.val + k) % 4, Nat.mod_lt _ (by decide)⟩

/-- The neighbour to the right (`true`) or to the left (`false`). -/
def peer : Bool → Dev nD → Dev nD
  | true => fwd 1
  | false => fwd 3

theorem peer_peer (d : Bool) (c : Dev nD) : peer d (peer (!d) c) = c := by revert d c; decide
theorem peer_peer' (d : Bool) (c : Dev nD) : peer (!d) (peer d c) = c := by revert d c; decide

/-- Going to one neighbour is a permutation of the devices. -/
def turn (d : Bool) : Dev nD ≃ Dev nD := ⟨peer d, peer (!d), peer_peer' d, peer_peer d⟩

/-- Whose rows slot `s` of device `c`'s gather buffer holds. -/
def own (c : Dev nD) : ℕ → Dev nD
  | 0 => fwd 3 c
  | 1 => fwd 1 c
  | 2 => fwd 2 c
  | _ => c

/-! ## The fourteen copies -/

def csrc : Fin 14 → ℕ := ![3, 3, 3, 3, 3, 3, 3, 3, 0, 0, 0, 1, 1, 1]
def cdst : Fin 14 → ℕ := ![0, 0, 0, 0, 1, 1, 1, 1, 2, 2, 2, 2, 2, 2]
def clo : Fin 14 → ℕ := ![0, 256, 512, 768, 0, 256, 512, 768, 0, 256, 384, 512, 768, 896]
def cn : Fin 14 → ℕ := ![256, 256, 256, 256, 256, 256, 256, 256, 256, 128, 128, 256, 128, 128]
def cright : Fin 14 → Bool := ![true, true, true, true, false, false, false, false, true, true, true, false, false, false]

/-- The target slot on the addressee holds the rows of the device whose rows the source slot holds here. -/
theorem own_peer (c : Dev nD) (i : Fin 14) : own (peer (cright i) c) (cdst i) = own c (csrc i) := by revert c i; decide

/-- The share of its source that copy `i` reads under: two copies read each `OWN` chunk, and the loads another share. -/
def cq : Fin 14 → PosShare TreeShare :=
  ![fullShare.left, fullShare.left, fullShare.left, fullShare.left,
    fullShare.right.left, fullShare.right.left, fullShare.right.left, fullShare.right.left,
    fullShare.left, fullShare.left, fullShare.left, fullShare.left, fullShare.left, fullShare.left]

abbrev srcBox (i : Fin 14) : Finset S4x1024x4096.Idx := box (s := S4x1024x4096) ![csrc i, clo i, 0] ![1, cn i, 4096]
abbrev dstBox (i : Fin 14) : Finset S4x1024x4096.Idx := box (s := S4x1024x4096) ![cdst i, clo i, 0] ![1, cn i, 4096]

/-- What copy `i` credits its cells by: the credit of its rows. -/
def amt (i : Fin 14) : ℕ := (cc0_scratch0 : Ref sig .tc).dmaCredit ⟨2, ![cn i, 4096]⟩ .fp8e5m2
theorem amt_pos (i : Fin 14) : 0 < amt i := by revert i; decide

/-! ## Contents -/

/-- The element at row `r`, column `k` of device `d`'s block of `x`; -/
def xN (d : Dev nD) (r k : ℕ) : F .f32 :=
  m ((d : Thread nD τ).loc main_arg0) (ix2 (⟨r % 1024, Nat.mod_lt _ (by decide)⟩ : Fin 1024) (⟨k % 4096, Nat.mod_lt _ (by decide)⟩ : Fin 4096))
/-- of its block of `w`. -/
def wN (d : Dev nD) (r k : ℕ) : F .f32 :=
  m ((d : Thread nD τ).loc main_arg1) (ix2 (⟨r % 4096, Nat.mod_lt _ (by decide)⟩ : Fin 4096) (⟨k % 2048, Nat.mod_lt _ (by decide)⟩ : Fin 2048))

/-- The cast to the narrow format. -/
def tr (v : F .f32) : F .fp8e5m2 := FloatOps.truncf .fp8e5m2 bitsLt_fp8e5m2_f32 v

/-- The gather buffer, by slot, row and column. -/
def gN (c : Dev nD) (s r k : ℕ) : F .fp8e5m2 := tr (xN m (own c s) r k)
/-- The cast block of `w`. -/
def vN (c : Dev nD) (r k : ℕ) : F .fp8e5m2 := tr (wN m c r k)

abbrev xg (c : Dev nD) : Loc nD τ sig := (c : Thread nD τ).loc cc0_scratch0
/-- The gather buffer of device `c` when every copy has landed. -/
def G (c : Dev nD) : Buf (Elt F) (xg c) := fun i => gN m c (i 0).val (i 1).val (i 2).val

/-! ## The cells -/

/-- The barrier semaphore, and copy `i`'s send and receive semaphores. -/
abbrev barS : Sem sig := (SemArray.scalar (sig.barrier 0 rfl) : Sems sig S_).sem
set_option backward.proofsInPublic true in
def sendS (i : Fin 14) : DmaSem sig := ⟨2 + i.val, by have := i.isLt; show 2 + i.val < 36; omega⟩
set_option backward.proofsInPublic true in
def recvS (i : Fin 14) : DmaSem sig := ⟨16 + i.val, by have := i.isLt; show 16 + i.val < 36; omega⟩

/-- Which of the protocol's cells a semaphore is. -/
inductive Cls
  | bar
  | send (i : Fin 14)
  | recv (i : Fin 14)
  | other
  deriving DecidableEq

set_option backward.proofsInPublic true in
def cls : SemLoc sig → Cls
  | .reg s => if s = barS then .bar else .other
  | .dma s =>
    if h : 2 ≤ s.val ∧ s.val < 16 then .send ⟨s.val - 2, by omega⟩
    else if h : 16 ≤ s.val ∧ s.val < 30 then .recv ⟨s.val - 16, by omega⟩ else .other

abbrev Cell : Type := Option (Bool × Fin 14)
/-- The cells of one device: its barrier, receive cell `i` (`true`), send cell `i` (`false`). -/
def csem : Cell → SemLoc sig
  | none => .reg barS
  | some (true, i) => .dma (recvS i)
  | some (false, i) => .dma (sendS i)
abbrev kcell (ck : Dev nD × Cell) : GSem nD τ sig := ((ck.1 : Thread nD τ), csem ck.2)
abbrev barCell (c : Dev nD) : GSem nD τ sig := ((c : Thread nD τ), .reg barS)
abbrev recvCell (c : Dev nD) (i : Fin 14) : GSem nD τ sig := ((c : Thread nD τ), .dma (recvS i))
abbrev sendCell (c : Dev nD) (i : Fin 14) : GSem nD τ sig := ((c : Thread nD τ), .dma (sendS i))

theorem cls_bar : cls (.reg barS) = .bar := by unfold cls; exact if_pos rfl
theorem cls_recv (i : Fin 14) : cls (.dma (recvS i)) = .recv i := by revert i; decide
theorem cls_send (i : Fin 14) : cls (.dma (sendS i)) = .send i := by revert i; decide
theorem csem_injective : Function.Injective csem := by decide

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-! ## The schedule -/

/-- The target rows of copy `i` on device `d`, at share `q`. -/
def landPt (d : Dev nD) (i : Fin 14) (f : Buf (Elt F) (xg d)) : sProp 𝕄 := xg d ↦[dstBox i]{fullShare} f
/-- The source rows of copy `i` on device `c`. -/
def srcPt (c : Dev nD) (i : Fin 14) : sProp 𝕄 := xg c ↦[srcBox i]{cq i} G m c

/-- What the neighbour on side `d` hands device `c`: its target rows of the copies `c` makes to it. -/
def barPay (c : Dev nD) (d : Bool) : sProp 𝕄 :=
  bigSep (Finset.univ.filter fun i => cright i = d) fun i => iprop(∃ f, landPt (peer d c) i f)
def recvPay (c : Dev nD) (i : Fin 14) : sProp 𝕄 := landPt c i (G m c)

instance landPt_storable (d : Dev nD) (i : Fin 14) (f) : BI.Storable (upEmb : UEmb _ 𝕄) (landPt (F := F) d i f) := by
  unfold landPt; infer_instance
instance srcPt_storable (c : Dev nD) (i : Fin 14) : BI.Storable (upEmb : UEmb _ 𝕄) (srcPt m c i) := by
  unfold srcPt; infer_instance
instance barPay_storable (c : Dev nD) (d : Bool) : BI.Storable (upEmb : UEmb _ 𝕄) (barPay (F := F) c d) := by
  unfold barPay; infer_instance
instance recvPay_storable (c : Dev nD) (i : Fin 14) : BI.Storable (upEmb : UEmb _ 𝕄) (recvPay m c i) := by
  unfold recvPay; infer_instance

/-- One round. -/
def Rd : Rounds.Schedule (GSem nD τ sig) Bool 𝕄 where
  duties g r := if r = 0 ∧ g.1.2 = .tc then (match cls g.2 with | .bar => Finset.univ | .send _ => {false} | .recv _ => {false} | .other => ∅) else ∅
  unitless _ := False
  amount g _ _ := match cls g.2 with | .send i => amt i | .recv i => amt i | _ => 1
  payload g _ d := match cls g.2 with
    | .bar => barPay g.1.1 d
    | .send i => srcPt m g.1.1 i
    | .recv i => recvPay m g.1.1 i
    | .other => iprop(emp)
  amount_pos g _ _ _ := by
    cases cls g.2 with
    | send i => exact amt_pos i
    | recv i => exact amt_pos i
    | bar => exact Nat.one_pos
    | other => exact Nat.one_pos

instance Rd_storable (g : GSem nD τ sig) (r : ℕ) (d : Bool) : BI.Storable (upEmb : UEmb _ 𝕄) ((Rd (F := F) m).payload g r d) := by
  show BI.Storable upEmb (match cls g.2 with
    | .bar => barPay g.1.1 d | .send i => srcPt m g.1.1 i | .recv i => recvPay m g.1.1 i | .other => iprop(emp))
  cases cls g.2 <;> infer_instance

section Sched
variable (c : Dev nD) (i : Fin 14)

theorem duties_bar : (Rd (F := F) m).duties (barCell c) 0 = Finset.univ := by
  dsimp only [Rd]; rw [if_pos ⟨rfl, rfl⟩, cls_bar]
theorem duties_recv : (Rd (F := F) m).duties (recvCell c i) 0 = {false} := by
  dsimp only [Rd]; rw [if_pos ⟨rfl, rfl⟩, cls_recv]
theorem duties_send : (Rd (F := F) m).duties (sendCell c i) 0 = {false} := by
  dsimp only [Rd]; rw [if_pos ⟨rfl, rfl⟩, cls_send]
theorem duties_later (g : GSem nD τ sig) : ∀ r, 1 ≤ r → (Rd (F := F) m).duties g r = ∅ :=
  fun r hr => by dsimp only [Rd]; rw [if_neg fun h => by omega]

theorem amount_bar (d : Bool) : (Rd (F := F) m).amount (barCell c) 0 d = 1 := by dsimp only [Rd]; rw [cls_bar]
theorem amount_recv (d : Bool) : (Rd (F := F) m).amount (recvCell c i) 0 d = amt i := by dsimp only [Rd]; rw [cls_recv]
theorem amount_send (d : Bool) : (Rd (F := F) m).amount (sendCell c i) 0 d = amt i := by dsimp only [Rd]; rw [cls_send]

theorem expect_bar : (Rd (F := F) m).expect (barCell c) 0 = 2 := by
  unfold Schedule.expect Schedule.amountOf
  rw [duties_bar, Finset.sum_congr rfl fun d _ => amount_bar m c d, Finset.sum_const]; rfl
theorem expect_recv : (Rd (F := F) m).expect (recvCell c i) 0 = amt i := by
  unfold Schedule.expect Schedule.amountOf; rw [duties_recv, Finset.sum_singleton, amount_recv]
theorem expect_send : (Rd (F := F) m).expect (sendCell c i) 0 = amt i := by
  unfold Schedule.expect Schedule.amountOf; rw [duties_send, Finset.sum_singleton, amount_send]

theorem payload_bar (d : Bool) : (Rd (F := F) m).payload (barCell c) 0 d = barPay c d := by dsimp only [Rd]; rw [cls_bar]
theorem payload_recv (d : Bool) : (Rd (F := F) m).payload (recvCell c i) 0 d = recvPay m c i := by dsimp only [Rd]; rw [cls_recv]
theorem payload_send (d : Bool) : (Rd (F := F) m).payload (sendCell c i) 0 d = srcPt m c i := by dsimp only [Rd]; rw [cls_send]

theorem rest_bar : bigSep ((Rd (F := F) m).duties (barCell c) 0 \ ∅) (fun d => (Rd (F := F) m).payload (barCell c) 0 d)
    = iprop(barPay c true ∗ barPay c false) := by
  rw [Finset.sdiff_empty, duties_bar, bigSep_univ_eq_bigSepL [true, false] (by decide) (by decide), bigSepL_cons_cons, bigSepL_singleton,
    payload_bar, payload_bar]; rfl
theorem rest_recv : bigSep ((Rd (F := F) m).duties (recvCell c i) 0 \ ∅) (fun d => (Rd (F := F) m).payload (recvCell c i) 0 d) = recvPay m c i := by
  rw [Finset.sdiff_empty, duties_recv, bigSep_singleton, payload_recv]
theorem rest_send : bigSep ((Rd (F := F) m).duties (sendCell c i) 0 \ ∅) (fun d => (Rd (F := F) m).payload (sendCell c i) 0 d) = srcPt m c i := by
  rw [Finset.sdiff_empty, duties_send, bigSep_singleton, payload_send]

end Sched

/-! ## What a device owes, and the levels -/

/-- What device `c` owes for the copies `l` it has still to make, the next one first. -/
def oweSends (c : Dev nD) : List (Fin 14) → CellTallies nD τ sig Unit
  | [] => 0
  | i :: l => oweSends c l + tallyAt (recvCell (peer (cright i) c) i) () (amt i)

/-- The copies in the order the kernel makes them. -/
abbrev order : List (Fin 14) := [0, 4, 1, 5, 2, 6, 3, 7, 8, 9, 10, 11, 12, 13]

/-- After the signal to the left, -/
def owe₁ (c : Dev nD) : CellTallies nD τ sig Unit := oweSends c order + tallyAt (barCell (peer true c)) () 1
/-- and at launch. -/
def owe₀ (c : Dev nD) : CellTallies nD τ sig Unit := owe₁ c + tallyAt (barCell (peer false c)) () 1

def L (g : GSem nD τ sig) : Finset Unit := if g.1.2 = .tc then {()} else ∅
/-- Barrier cells at 1, the receive cells of the first hop at 2, of the second at 3, everything else at 0. -/
def lvl (s : SemLoc sig) : ℕ := match cls s with
  | .bar => 1
  | .recv i => if i.val < 8 then 2 else 3
  | _ => 0
def lv (g : GSem nD τ sig) (_ : Unit) : ℕ := lvl g.2

theorem L_of_ne (g : GSem nD τ sig) (h : g.1.2 ≠ .tc) : L g = ∅ := if_neg h
theorem L_tc (c : Dev nD) (s : SemLoc sig) : L ((c : Thread nD τ), s) = {()} := if_pos rfl

theorem oweSends_pos {c : Dev nD} {g : GSem nD τ sig} {u : Unit} : ∀ {l : List (Fin 14)}, 0 < oweSends c l g u →
    ∃ i ∈ l, g = recvCell (peer (cright i) c) i
  | [], h => absurd h (Nat.lt_irrefl 0)
  | i :: l, h => by
    by_cases hg : g = recvCell (peer (cright i) c) i ∧ u = ()
    · exact ⟨i, List.mem_cons_self, hg.1⟩
    · unfold oweSends at h
      rw [Pi.add_apply, Finsupp.add_apply, tallyAt_apply, if_neg hg, Nat.add_zero] at h
      obtain ⟨j, hj, e⟩ := oweSends_pos h
      exact ⟨j, List.mem_cons_of_mem _ hj, e⟩

theorem owe₀_pos {c : Dev nD} {g : GSem nD τ sig} {u : Unit} (h : 0 < owe₀ c g u) :
    (∃ i : Fin 14, g = recvCell (peer (cright i) c) i) ∨ ∃ d, g = barCell (peer d c) := by
  unfold owe₀ owe₁ at h
  rw [Pi.add_apply, Finsupp.add_apply, Pi.add_apply, Finsupp.add_apply, tallyAt_apply, tallyAt_apply] at h
  by_cases h1 : g = barCell (peer true c) ∧ u = ()
  · exact .inr ⟨true, h1.1⟩
  by_cases h2 : g = barCell (peer false c) ∧ u = ()
  · exact .inr ⟨false, h2.1⟩
  rw [if_neg h1, if_neg h2, Nat.add_zero] at h
  obtain ⟨i, -, e⟩ := oweSends_pos h
  exact .inl ⟨i, e⟩

/-- The wait on a cell is allowed while every copy still to be made completes on a cell of a higher level. -/
theorem mayWait_sends (c : Dev nD) (s : SemLoc sig) (l : List (Fin 14)) (h : ∀ i ∈ l, lvl s < lvl (.dma (recvS i))) :
    (levAts L lv : sProp 𝕄) ⊢ MayWait (c : Thread nD τ) s () (oweSends c l) :=
  MayOwe.of_cut (L := L) (lev := lv) (lvl s) (fun p hp => by rw [Finset.mem_singleton.mp hp, L_tc]; exact Finset.mem_singleton_self _)
    (fun g u hg => by obtain ⟨i, -, rfl⟩ := oweSends_pos hg; exact Finset.mem_singleton_self _)
    (fun p hp => by rw [Finset.mem_singleton.mp hp]; exact Nat.le_refl _)
    (fun g u hg => by obtain ⟨i, hi, rfl⟩ := oweSends_pos hg; exact h i hi)

/-- The pipeline's own waits, at launch. -/
theorem mayWait_stage (c : Dev nD) (s : SemLoc sig) (hs : lvl s = 0) (O : CellTallies nD τ sig Unit) (hO : O = owe₀ c ∨ O = 0) :
    (levAts L lv : sProp 𝕄) ⊢ MayWait (c : Thread nD τ) s () O := by
  rcases hO with rfl | rfl
  · refine MayOwe.of_cut (L := L) (lev := lv) 0 (fun p hp => by rw [Finset.mem_singleton.mp hp, L_tc]; exact Finset.mem_singleton_self _)
      (fun g u hg => by rcases owe₀_pos hg with ⟨i, rfl⟩ | ⟨d, rfl⟩ <;> exact Finset.mem_singleton_self _)
      (fun p hp => by rw [Finset.mem_singleton.mp hp]; exact Nat.le_of_eq hs)
      (fun g u hg => by
        rcases owe₀_pos hg with ⟨i, rfl⟩ | ⟨d, rfl⟩
        · exact (by decide : ∀ i, 0 < lvl (.dma (recvS i))) i
        · exact (by decide : 0 < lvl (.reg barS)))
  · rw [MayWait_zero]; iintro -; iempintro

end Cert.RingGemm

end
-- ==== Proof.Steps.lean ====
/-
# One rule per kind of effect

Each rule takes the resources an effect needs, at the head of a program, and hands the continuation what it leaves:
loads and stores through a window, local copies and their waits, and the protocol's signals, remote copies and waits.
-/
module

public import proofs.«01_k».proof.Proof.Protocol
public import Idealize.ShloMosaic.Lib.Transfers

@[expose] public section

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]

local notation "𝕄" => MT nD τ sig Unit (Elt F) ℕ UU ℕ

abbrev 𝒱₀ : Variants := Variants.none

/-- Running `p` on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ)

section Memory
variable (c : Dev nD) {α : Type} {Q : α → sProp (MT nD τ sig Unit (Elt F) ℕ UU ℕ)}

/-- Writing a window and holding what was written: contents `B` that the window reads as `w`. -/
theorem write_eq {sp : Space} {s : Shape} {e : EltTy} (v : View sig .tc sp s e) (f B : v.ty.Contents (Elt F)) (w : s.Idx → Elt F e)
    (h : ∀ x, v.read (Elt F) B x = w x) : ∀ i ∈ v.set, v.write (Elt F) f w Finset.univ i = B i := by
  intro i hi
  obtain ⟨x, -, rfl⟩ := Finset.mem_map.mp hi
  rw [View.write_emb_of_mem _ _ (Finset.mem_univ x), ← h x, View.read_apply, cast_cast, cast_eq]

/-- A load through a window of which exactly the elements are held. -/
theorem step_load {cs : CoreSpace} {s : Shape} {e : EltTy} {M : Memref sig .tc cs s e} {r : Rect s} {hl : M.view.LoadsAt r.toLoadRect}
    {k : (r.shape.Idx → Elt F e) → Prog (TpuEff nD τ sig (Elt F) Λ₀ .tc) α} {S : Finset (Idx (M.view.loc (c : Thread nD τ)))} {q : PosShare TreeShare}
    {f : Buf (Elt F) (M.view.loc (c : Thread nD τ))} (hS : (M.access r).set = S) (v : r.shape.Idx → Elt F e)
    (hv : ∀ x, (M.access r).read (Elt F) f x = v x) :
    (M.view.loc (c : Thread nD τ) ↦[S]{q} f)
      ⊢ iprop(((M.view.loc (c : Thread nD τ) ↦[S]{q} f) -∗ run c (k v) Q) -∗ run c (.op (.load M r.toLoadRect hl) k) Q) := by
  have h := wp_load_rect (defs := defs₀ (F := F)) 𝒱₀ (c : Thread nD τ) none (Γ := []) Set.univ (Q := Q) (m := M) (r := r) (hl := hl) (k := k)
    (S := S) (q := q) (f := f) (le_of_eq hS)
  rw [show (M.access r).read (Elt F) f = v from funext hv] at h
  exact h

/-- A store through a window of which the elements are held, after the load that the kernel makes of it and drops. -/
theorem step_put {cs : CoreSpace} {s : Shape} {e : EltTy} {M : Memref sig .tc cs s e} {r : Rect s} {hl : M.view.LoadsAt r.toLoadRect}
    {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α} {S : Finset (Idx (M.view.loc (c : Thread nD τ)))} (hS : (M.access r).set = S)
    (B : Buf (Elt F) (M.view.loc (c : Thread nD τ))) (hB : ∀ x, (M.access r).read (Elt F) B x = w x) :
    iprop(∃ f, M.view.loc (c : Thread nD τ) ↦[S]{fullShare} f)
      ⊢ iprop(((M.view.loc (c : Thread nD τ) ↦[S]{fullShare} B) -∗ run c (k ⟨⟩) Q)
          -∗ run c (.op (.load M r.toLoadRect hl) fun _ => .op (.store M r w Finset.univ hx hm) k) Q) := by
  subst hS
  iintro ⟨%f, H⟩ Hk
  iapply (wp_load_rect 𝒱₀ (c : Thread nD τ) none Set.univ (m := M) (r := r) subset_rfl) $$ H
  iintro H
  iapply (wp_store 𝒱₀ (c : Thread nD τ) none Set.univ (m := M) (r := r) (Mk := Finset.univ) (View.setOn_subset_set _ _)) $$ H
  iintro H
  iapply Hk
  iapply (Entails.of_eq (pointsTo_congr (write_eq (M.access r) f B w hB))) $$ H

/-- A local copy between two windows, both held. -/
theorem step_copy {sp sp' : Space} {s : Shape} {e : EltTy} {src : Memref sig .tc sp s e} {dst : Memref sig .tc sp' s e} {sm : DmaSem sig}
    {hsrc : src.view.WordExact} {hdst : dst.view.WordExact} {hsem : DmaTarget.Typed (nD := nD) (τ := τ) (p := .tc) sp (.dma sm) (.here dst)}
    {k : PUnit → Prog (TpuEff nD τ sig (Elt F) Λ₀ .tc) α} {q : PosShare TreeShare} (N : ℕ) (hN : dst.view.amount (.dma sm) = N) (hN0 : 0 < N)
    {Ss : Finset (Idx (src.view.loc (c : Thread nD τ)))} {Sd : Finset (Idx (dst.view.loc (c : Thread nD τ)))}
    (hs : src.view.set = Ss) (hd : dst.view.set = Sd)
    (fs : Buf (Elt F) (src.view.loc (c : Thread nD τ))) (B : Buf (Elt F) (dst.view.loc (c : Thread nD τ)))
    (hB : ∀ x, dst.view.read (Elt F) B x = src.view.read (Elt F) fs x) :
    iprop((src.view.loc (c : Thread nD τ) ↦[Ss]{q} fs) ∗ (∃ f, dst.view.loc (c : Thread nD τ) ↦[Sd]{fullShare} f) ∗ semVal ((c : Thread nD τ), .dma sm) 0)
      ⊢ iprop((Transfers.Flight EC (c : Thread nD τ) (.dma sm) () N
                iprop((dst.view.loc (c : Thread nD τ) ↦[Sd]{fullShare} B) ∗ (src.view.loc (c : Thread nD τ) ↦[Ss]{q} fs)) -∗ run c (k ⟨⟩) Q)
          -∗ run c (.op (.enqueueDma src (.here dst) (.dma sm) hsrc hdst hsem) k) Q) := by
  subst hs hd
  iintro ⟨Hs, ⟨%f, Hd⟩, Hv⟩ Hk
  iapply (Transfers.wp_dmaLocal EC 𝒱₀ (c : Thread nD τ) none () N hN hN0 subset_rfl) $$ [Hs Hd Hv]
  · isplitl [Hs]; · iexact Hs
    isplitl [Hd]; · iexact Hd
    iexact Hv
  iintro HF
  iapply Hk
  iapply (Transfers.Flight_mono EC (c : Thread nD τ) (sep_mono_left (Entails.of_eq (pointsTo_congr (write_eq dst.view f B _ hB))))) $$ HF

end Memory

/-! ## What a device still owes -/

/-- Device `c` has the copies `l` still to make. -/
def Ow (c : Dev nD) (l : List (Fin 14)) : sProp 𝕄 := iprop(∃ W, owes (c : Thread nD τ) (oweSends c l) W)

/-- The cells' invariants and that each is at its only round; the levels. -/
def Env (K : Dev nD × Cell → ℕ) : sProp 𝕄 :=
  iprop((bigSep Finset.univ fun ck => iprop(cellInv ER (Rd m) (K ck) (kcell ck) ∗ reached ER (kcell ck) 0)) ∗ levAts L lv)

instance Env_persistent (K : Dev nD × Cell → ℕ) : BI.Persistent (Env m K) := by unfold Env; infer_instance

theorem Env_cell (K : Dev nD × Cell → ℕ) (ck : Dev nD × Cell) :
    Env m K ⊢ iprop(cellInv ER (Rd m) (K ck) (kcell ck) ∗ reached ER (kcell ck) 0) := by
  unfold Env
  refine sep_elim_left.trans ?_
  rw [bigSep_univ_at (fun ck => iprop(cellInv ER (Rd m) (K ck) (kcell ck) ∗ reached ER (kcell ck) 0)) ck]
  exact sep_elim_left

theorem Env_bar (K : Dev nD × Cell → ℕ) (c : Dev nD) : Env m K ⊢ iprop(cellInv ER (Rd m) (K (c, none)) (barCell c) ∗ reached ER (barCell c) 0) :=
  Env_cell m K (c, none)
theorem Env_recv (K : Dev nD × Cell → ℕ) (c : Dev nD) (i : Fin 14) :
    Env m K ⊢ iprop(cellInv ER (Rd m) (K (c, some (true, i))) (recvCell c i) ∗ reached ER (recvCell c i) 0) := Env_cell m K (c, some (true, i))
theorem Env_send (K : Dev nD × Cell → ℕ) (c : Dev nD) (i : Fin 14) :
    Env m K ⊢ iprop(cellInv ER (Rd m) (K (c, some (false, i))) (sendCell c i) ∗ reached ER (sendCell c i) 0) := Env_cell m K (c, some (false, i))

theorem Env_lev (K : Dev nD × Cell → ℕ) : Env m K ⊢ levAts L lv := by unfold Env; exact sep_elim_right

section Protocol
variable (K : Dev nD × Cell → ℕ) (c : Dev nD) {α : Type} {Q : α → sProp (MT nD τ sig Unit (Elt F) ℕ UU ℕ)}

/-- The wait of a local copy, on a semaphore that is none of the protocol's. -/
theorem step_wait {sp sp' : Space} {s s' : Shape} {e e' : EltTy} {κ' : Kind} {sem : DmaSem sig} (hl : lvl (.dma sem) = 0)
    {srcw : Memref sig .tc sp' s' e'} {dstw : Memref sig κ' sp s e} {hsrc : srcw.view.WordExact} {hdst : dstw.view.WordExact}
    {k : PUnit → Prog (TpuEff nD τ sig (Elt F) Λ₀ .tc) α} {N : ℕ} (hN : dstw.view.dmaCredit = N) {D : sProp 𝕄} (l : List (Fin 14)) :
    iprop(Env m K ∗ Transfers.Flight EC (c : Thread nD τ) (.dma sem) () N D ∗ Ow c l)
      ⊢ iprop((iprop(D ∗ semVal ((c : Thread nD τ), .dma sem) 0 ∗ Ow c l) -∗ run c (k ⟨⟩) Q)
          -∗ run c (.op (.waitDma2 sem srcw dstw hsrc hdst) k) Q) := by
  unfold Ow
  iintro ⟨#He, HF, ⟨%W, HO⟩⟩ Hk
  iapply (Transfers.wp_waitLocalO EC 𝒱₀ (c : Thread nD τ) none () hN) $$ [HF HO]
  · isplitl [HF]; · iexact HF
    isplitl [HO]; · iexact HO
    iapply (mayWait_sends c (.dma sem) l fun i _ => by rw [hl]; exact (by decide : ∀ i, 0 < lvl (.dma (recvS i))) i)
    iapply (Env_lev m K) $$ He
  iintro ⟨HD, Hv, HO⟩
  iapply Hk
  isplitl [HD]; · iexact HD
  isplitl [Hv]; · iexact Hv
  iexists _; iexact HO

/-- What device `c` holds for copy `i` before it makes it, but the source; -/
def sIn (i : Fin 14) : sProp 𝕄 :=
  iprop(dutyTok ER (sendCell c i) 0 false ∗ dutyTok ER (recvCell (peer (cright i) c) i) 0 false ∗ atPos ER (sendCell c i) 0 ∅ 0)
/-- after it, till its wait; -/
def sOut (i : Fin 14) : sProp 𝕄 := iprop(cred (tallyAt (sendCell c i) () (amt i)) ∗ atPos ER (sendCell c i) 0 ∅ 0)
/-- for the copy `i` that comes in, till its wait. -/
def rIn (i : Fin 14) : sProp 𝕄 := iprop(cred (tallyAt (recvCell c i) () (amt i)) ∗ atPos ER (recvCell c i) 0 ∅ 0)

/-- A signal to a neighbour's barrier, which hands it the rows it will copy into. -/
theorem step_signal (d : Bool) {n : Dev nD} (hn : n = peer d c) {sm : Sem sig} (hsm : sm = barS) {k' : ℕ} (hk' : k' = 1)
    {k : PUnit → Prog (TpuEff nD τ sig (Elt F) Λ₀ .tc) α} (O : CellTallies nD τ sig Unit) (O₀ : CellTallies nD τ sig Unit) (W : Waits sig Unit)
    (hO : O₀ = O + tallyAt (barCell (peer d c)) () 1) :
    iprop(Env m K ∗ owes (c : Thread nD τ) O₀ W ∗ dutyTok ER (barCell (peer d c)) 0 (!d) ∗ barPay (peer d c) (!d))
      ⊢ iprop((owes (c : Thread nD τ) O W -∗ run c (k ⟨⟩) Q) -∗ run c (.op (.semSignal (n : Thread nD τ) sm k') k) Q) := by
  subst hn hsm hk'
  iintro ⟨#He, HO, Ht, Hp⟩
  ihave #Hc := (Env_bar m K (peer d c)) $$ He
  icases Hc with ⟨#HI, #Hr⟩
  iapply (Rounds.wp_signal 𝒱₀ ER (Rd m) (c : Thread nD τ) none (dst := ((peer d c : Dev nD) : Thread nD τ)) (κ := K (peer d c, none))
    (d := !d) (by rw [duties_bar]; exact Finset.mem_univ _) (amount_bar m (peer d c) (!d)) () O hO)
  isplitr; · iexact HI
  isplitl [HO]; · iexact HO
  isplitl [Ht]; · iexact Ht
  isplitl [Hp]; · rw [payload_bar]; iexact Hp
  iexact Hr

/-- The wait for both neighbours, which hands over the rows to copy into. -/
theorem step_barrier {sm : Sem sig} (hsm : sm = barS) {k' : ℕ} (hk' : k' = 2)
    {k : PUnit → Prog (TpuEff nD τ sig (Elt F) Λ₀ .tc) α} (W : Waits sig Unit) :
    iprop(Env m K ∗ cred (tallyAt (barCell c) () 2) ∗ owes (c : Thread nD τ) (oweSends c order) W ∗ atPos ER (barCell c) 0 ∅ 0)
      ⊢ iprop((iprop(Ow c order ∗ semVal (barCell c) 0 ∗ barPay c true ∗ barPay c false) -∗ run c (k ⟨⟩) Q)
          -∗ run c (.op (.semWait sm k') k) Q) := by
  subst hsm hk'
  iintro ⟨#He, Hc, HO, Hat⟩ Hk
  ihave #Hcc := (Env_bar m K c) $$ He
  icases Hcc with ⟨#HI, #Hr⟩
  iapply (Rounds.wp_wait_rest_token 𝒱₀ ER (Rd m) (c : Thread nD τ) none (κ := K (c, none))
      (wpE_semWait_eq 𝒱₀ (c : Thread nD τ) none Set.univ) (Set.mem_univ _) () (O := oweSends c order) (W := W) (R := 0) (m := 0) (T := ∅)
      (by rw [Nat.zero_add]; exact (expect_bar m c).symm)) $$ [Hc HO Hat]
  · isplitr; · iexact HI
    isplitl [Hc]; · iexact Hc
    isplitl [HO]; · iexact HO
    isplitr
    · iapply (mayWait_sends c (.reg barS) order (by decide))
      iapply (Env_lev m K) $$ He
    iexact Hat
  iintro ⟨HO, Hat, -, Hpay⟩
  ihave Hp := (Entails.of_eq (rest_bar m c)) $$ Hpay
  icases Hp with ⟨H1, H2⟩
  imod (Rounds.cell_close ER (Rd m) (Set.mem_univ (K (c, none))) (fun h => h) (R := 0 + 1) (duties_later m (barCell c))) $$ [Hat] with Hz
  · isplitr; · iexact HI
    iexact Hat
  iapply Hk
  unfold Ow
  isplitl [HO]; · iexists _; iexact HO
  isplitl [Hz]; · iexact Hz
  isplitl [H1]; · iexact H1
  iexact H2

/-- The gather buffer by coordinates. -/
theorem G_N3 (d : Dev nD) : N3 (Memref.whole cc0_scratch0 : Memref sig .tc .vmem S4x1024x4096 .fp8e5m2) (G m d) (gN m d) := fun _ => rfl

/-- A window of one slot of the gather buffer, without the slot's axis. -/
abbrev gWin (off : Fin 3 → ℕ) (d : Fin 2 → ℕ) (inb : ∀ a, off a + (Matrix.vecCons 1 d : Fin 3 → ℕ) a ≤ S4x1024x4096.size a)
    (hr : ∀ a, (Rect.unit (s := S4x1024x4096) off (Matrix.vecCons 1 d) inb).stride a = 1)
    (hq : (Rect.unit (s := S4x1024x4096) off (Matrix.vecCons 1 d) inb).shape.Squeezes ⟨2, d⟩) : Memref sig .tc .vmem ⟨2, d⟩ .fp8e5m2 :=
  ((Memref.whole cc0_scratch0 : Memref sig .tc .vmem S4x1024x4096 .fp8e5m2).slice (Rect.unit (s := S4x1024x4096) off (Matrix.vecCons 1 d) inb) hr).squeeze ⟨2, d⟩ hq

/-- What such a window reads of the gathered contents. -/
theorem gWin_read (dev : Dev nD) (a b : ℕ) (d : Fin 2 → ℕ) (inb hr hq) (x : (⟨2, d⟩ : Shape).Idx) :
    (gWin ![a, b, 0] d inb hr hq).view.read (Elt F) (G m dev) x = gN m dev a (b + (x 0).val) (x 1).val := by
  rw [(G_N3 m dev).squeeze _ _ inb hr hq hq.numel_eq x]
  show gN m dev a (b + (x 0).val) (0 + (x 1).val) = _
  rw [Nat.zero_add]

/-- What copy `i` writes is the gathered contents of the addressee. -/
theorem landed_eq (i : Fin 14) {inbS hrS hqS inbD hrD hqD} (f : Buf (Elt F) (xg (peer (cright i) c))) :
    ∀ j ∈ dstBox i, (gWin ![cdst i, clo i, 0] ![cn i, 4096] inbD hrD hqD).view.write (Elt F) f
        ((gWin ![csrc i, clo i, 0] ![cn i, 4096] inbS hrS hqS).view.read (Elt F) (G m c)) Finset.univ j = G m (peer (cright i) c) j := by
  have h := write_eq (gWin ![cdst i, clo i, 0] ![cn i, 4096] inbD hrD hqD).view f (G m (peer (cright i) c))
    ((gWin ![csrc i, clo i, 0] ![cn i, 4096] inbS hrS hqS).view.read (Elt F) (G m c)) fun x => by
      rw [gWin_read, gWin_read]; unfold gN; rw [own_peer]
  rw [squeeze_set] at h
  exact h

theorem amount_copy (i : Fin 14) {inbD hrD hqD} {sm : DmaSem sig} :
    (gWin ![cdst i, clo i, 0] ![cn i, 4096] inbD hrD hqD).view.amount (.dma sm) = amt i := rfl

/-- Copy `i` to the neighbour. -/
theorem step_send (i : Fin 14) (l : List (Fin 14)) {n : Dev nD} (hn : n = peer (cright i) c)
    {offS offD : Fin 3 → ℕ} {d : Fin 2 → ℕ} (hoS : offS = ![csrc i, clo i, 0]) (hoD : offD = ![cdst i, clo i, 0]) (hd : d = ![cn i, 4096])
    {sS sR : DmaSem sig} (hS : sS = sendS i) (hR : sR = recvS i) {inbS hrS hqS inbD hrD hqD}
    {hsc : (gWin offD d inbD hrD hqD : Memref sig (Dev.tc n : Thread nD τ).2.kind .vmem ⟨2, d⟩ .fp8e5m2).view.ref.isScScratch = false}
    {hsrc : (gWin offS d inbS hrS hqS).view.WordExact} {hdst : (gWin offD d inbD hrD hqD).view.WordExact}
    {hsem : DmaTarget.Typed .vmem (.dma sR) (.remote (Dev.tc n : Thread nD τ) (gWin offD d inbD hrD hqD : Memref sig (Dev.tc n : Thread nD τ).2.kind .vmem ⟨2, d⟩ .fp8e5m2) (.dma sS) hsc)}
    {k : PUnit → Prog (TpuEff nD τ sig (Elt F) Λ₀ .tc) α} :
    iprop(Env m K ∗ sIn c i ∗ (∃ f, landPt (peer (cright i) c) i f) ∗ srcPt m c i ∗ Ow c (i :: l))
      ⊢ iprop((iprop(sOut c i ∗ Ow c l) -∗ run c (k ⟨⟩) Q)
          -∗ run c (.op (.enqueueDma (gWin offS d inbS hrS hqS) (.remote (Dev.tc n : Thread nD τ) (gWin offD d inbD hrD hqD) (.dma sS) hsc) (.dma sR) hsrc hdst hsem) k) Q) := by
  subst hn hoS hoD hd hS hR
  unfold sIn Ow landPt srcPt
  iintro ⟨#He, ⟨Ht1, Ht2, Hat⟩, ⟨%f, Hd⟩, Hs, ⟨%W, HO⟩⟩ Hk
  ihave #Hc := (Env_send m K c i) $$ He
  icases Hc with ⟨#HI1, #Hr1⟩
  ihave #Hc' := (Env_recv m K (peer (cright i) c) i) $$ He
  icases Hc' with ⟨#HI2, #Hr2⟩
  iapply (Rounds.wp_send_pointsTo 𝒱₀ ER (Rd m) (c : Thread nD τ) none (κ₁ := K (c, some (false, i))) (κ₂ := K (peer (cright i) c, some (true, i)))
    (r₁ := 0) (r₂ := 0) (d₁ := false) (d₂ := false) (q := cq i) (fs := G m c) (fd := f)
    (by rw [duties_send]; exact Finset.mem_singleton_self _) (by rw [duties_recv]; exact Finset.mem_singleton_self _)
    () () (amt i) (amount_copy i) (amount_send m c i false) (amount_recv m (peer (cright i) c) i false) (oweSends c l) rfl (W := W)
    (by rw [payload_send]; unfold srcPt; rw [squeeze_set])
    (by
      rw [payload_recv]; unfold recvPay landPt
      rw [squeeze_set]
      exact Entails.of_eq (pointsTo_congr (landed_eq m c i f)))) $$ [Hs Hd HO Ht1 Ht2]
  · isplitr; · iexact HI1
    isplitr; · iexact HI2
    isplitl [Hs]; · rw [squeeze_set]; iexact Hs
    isplitl [Hd]; · rw [squeeze_set]; iexact Hd
    isplitl [HO]; · iexact HO
    isplitl [Ht1]; · iexact Ht1
    isplitr; · iexact Hr1
    isplitl [Ht2]; · iexact Ht2
    iexact Hr2
  iintro ⟨Hcr, HO⟩
  iapply Hk
  unfold sOut
  isplitl [Hcr Hat]
  · isplitl [Hcr]; · iexact Hcr
    iexact Hat
  iexists _; iexact HO

/-- The wait for the copy `i` that comes in: its rows hold the gathered contents. -/
theorem step_recv (i : Fin 14) (l : List (Fin 14)) (hl : ∀ j ∈ l, lvl (.dma (recvS i)) < lvl (.dma (recvS j)))
    {sem : DmaSem sig} (hsm : sem = recvS i) {sp sp' : Space} {s s' : Shape} {e e' : EltTy} {κ' : Kind}
    {srcw : Memref sig .tc sp' s' e'} {dstw : Memref sig κ' sp s e} (hN : dstw.view.dmaCredit = amt i) {hsrc : srcw.view.WordExact} {hdst : dstw.view.WordExact}
    {k : PUnit → Prog (TpuEff nD τ sig (Elt F) Λ₀ .tc) α} :
    iprop(Env m K ∗ rIn c i ∗ Ow c l)
      ⊢ iprop((iprop(landPt c i (G m c) ∗ semVal (recvCell c i) 0 ∗ Ow c l) -∗ run c (k ⟨⟩) Q)
          -∗ run c (.op (.waitDma2 sem srcw dstw hsrc hdst) k) Q) := by
  subst hsm
  unfold rIn Ow
  iintro ⟨#He, ⟨Hc, Hat⟩, ⟨%W, HO⟩⟩ Hk
  ihave #Hcc := (Env_recv m K c i) $$ He
  icases Hcc with ⟨#HI, #Hr⟩
  iapply (Rounds.wp_wait_rest_token 𝒱₀ ER (Rd m) (c : Thread nD τ) none (κ := K (c, some (true, i)))
      (wpE_waitDma2_eq 𝒱₀ (c : Thread nD τ) none Set.univ) (Set.mem_univ _) () (O := oweSends c l) (W := W) (R := 0) (m := 0) (T := ∅)
      (by rw [Nat.zero_add, hN]; exact (expect_recv m c i).symm)) $$ [Hc HO Hat]
  · isplitr; · iexact HI
    isplitl [Hc]; · rw [hN]; iexact Hc
    isplitl [HO]; · iexact HO
    isplitr
    · iapply (mayWait_sends c (.dma (recvS i)) l hl)
      iapply (Env_lev m K) $$ He
    iexact Hat
  iintro ⟨HO, Hat, -, Hpay⟩
  ihave Hp := (Entails.of_eq (rest_recv m c i)) $$ Hpay
  imod (Rounds.cell_close ER (Rd m) (Set.mem_univ (K (c, some (true, i)))) (fun h => h) (R := 0 + 1) (duties_later m (recvCell c i))) $$ [Hat] with Hz
  · isplitr; · iexact HI
    iexact Hat
  iapply Hk
  isplitl [Hp]; · unfold recvPay; iexact Hp
  isplitl [Hz]; · iexact Hz
  iexists _; iexact HO

/-- The wait for copy `i` going out, once every copy is made: the source share is back. -/
theorem step_sent (i : Fin 14) {sem : DmaSem sig} (hsm : sem = sendS i) {sp sp' : Space} {s s' : Shape} {e e' : EltTy} {κ' : Kind}
    {srcw : Memref sig .tc sp' s' e'} {dstw : Memref sig κ' sp s e} (hN : dstw.view.dmaCredit = amt i) {hsrc : srcw.view.WordExact} {hdst : dstw.view.WordExact}
    {k : PUnit → Prog (TpuEff nD τ sig (Elt F) Λ₀ .tc) α} :
    iprop(Env m K ∗ sOut c i ∗ Ow c [])
      ⊢ iprop((iprop(srcPt m c i ∗ semVal (sendCell c i) 0 ∗ Ow c []) -∗ run c (k ⟨⟩) Q)
          -∗ run c (.op (.waitDma2 sem srcw dstw hsrc hdst) k) Q) := by
  subst hsm
  unfold sOut Ow
  iintro ⟨#He, ⟨Hc, Hat⟩, ⟨%W, HO⟩⟩ Hk
  ihave #Hcc := (Env_send m K c i) $$ He
  icases Hcc with ⟨#HI, #Hr⟩
  iapply (Rounds.wp_wait_rest_token 𝒱₀ ER (Rd m) (c : Thread nD τ) none (κ := K (c, some (false, i)))
      (wpE_waitDma2_eq 𝒱₀ (c : Thread nD τ) none Set.univ) (Set.mem_univ _) () (O := oweSends c []) (W := W) (R := 0) (m := 0) (T := ∅)
      (by rw [Nat.zero_add, hN]; exact (expect_send m c i).symm)) $$ [Hc HO Hat]
  · isplitr; · iexact HI
    isplitl [Hc]; · rw [hN]; iexact Hc
    isplitl [HO]; · iexact HO
    isplitr
    · iapply (mayWait_sends c (.dma (sendS i)) [] (fun j hj => nomatch hj))
      iapply (Env_lev m K) $$ He
    iexact Hat
  iintro ⟨HO, Hat, -, Hpay⟩
  ihave Hp := (Entails.of_eq (rest_send m c i)) $$ Hpay
  imod (Rounds.cell_close ER (Rd m) (Set.mem_univ (K (c, some (false, i)))) (fun h => h) (R := 0 + 1) (duties_later m (sendCell c i))) $$ [Hat] with Hz
  · isplitr; · iexact HI
    iexact Hat
  iapply Hk
  isplitl [Hp]; · iexact Hp
  isplitl [Hz]; · iexact Hz
  iexists _; iexact HO

end Protocol

end Cert.RingGemm

end
-- ==== Proof.Moves.lean ====
/-
# The kernel's moves

What each buffer holds piece by piece — the rows of `x` and `w` in HBM, the staging slots, the cast matrices, the output
pieces — and, for each move the kernel makes between them, the rule: fetch a block into a staging slot, wait for it,
load it, store its cast, load the operands of a product, store the product, and copy it out.
-/
module

public import proofs.«01_k».proof.Proof.Steps
public import Idealize.ShloMosaic.Lib.ViewIndex

@[expose] public section

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## Vectors -/

section Vectors
variable (c : Dev nD)

/-- Rows `256 q ..` of the block of `x`; rows `512 q ..` of the block of `w`. -/
def xRows (q : ℕ) : Vec F S1x256x4096 .f32 := fun x => xN m c (256 * q + (x 1).val) (x 2).val
def wRows (q : ℕ) : Vec F S1x512x2048 .f32 := fun x => wN m c (512 * q + (x 1).val) (x 2).val
/-- `n` rows from row `lo` of slot `s` of the gather buffer; the cast block of `w`. -/
def gRows (s lo n : ℕ) : Vec F ⟨3, ![1, n, 4096]⟩ .fp8e5m2 := fun x => gN m c s (lo + (x 1).val) (x 2).val
def vMat : Vec F S4096x2048 .fp8e5m2 := fun x => vN m c (x 0).val (x 1).val
/-- The one index of a vector of one element. -/
def zero1 : S1.Idx := ValueIdx.ix1 (0 : Fin 1)
/-- The product of the two scales. -/
def sc : F .f32 := k0_pay1 (m ((c : Thread nD τ).loc main_arg2) zero1) (m ((c : Thread nD τ).loc main_arg3) zero1)

/-- The kernel's product of `512`, `256` or `128` gathered rows with the cast block of `w`, scaled and cut off at zero. -/
def P512 (s lo r k : ℕ) : F .f32 :=
  k0_pay17 (sc m c) (gRows m c s lo 512) (vMat m c) (ix3 (0 : Fin 1) (⟨r % 512, Nat.mod_lt _ (by decide)⟩ : Fin 512) (⟨k % 2048, Nat.mod_lt _ (by decide)⟩ : Fin 2048))
def P256 (s lo r k : ℕ) : F .f32 :=
  k0_pay27 (sc m c) (k0_pay26 (gRows m c s lo 256)) (vMat m c) (ix3 (0 : Fin 1) (⟨r % 256, Nat.mod_lt _ (by decide)⟩ : Fin 256) (⟨k % 2048, Nat.mod_lt _ (by decide)⟩ : Fin 2048))
def P128 (s lo r k : ℕ) : F .f32 :=
  k0_pay31 (sc m c) (k0_pay30 (gRows m c s lo 128)) (vMat m c) (ix3 (0 : Fin 1) (⟨r % 128, Nat.mod_lt _ (by decide)⟩ : Fin 128) (⟨k % 2048, Nat.mod_lt _ (by decide)⟩ : Fin 2048))

/-- The twelve output pieces, in the order the kernel makes them, by row within the piece and column; -/
def PV : Fin 12 → ℕ → ℕ → F .f32 :=
  ![P512 m c 3 0, P512 m c 3 512, P512 m c 0 0, P512 m c 1 0, P512 m c 0 512, P512 m c 1 512,
    P256 m c 2 0, P256 m c 2 512, P128 m c 2 256, P128 m c 2 768, P128 m c 2 384, P128 m c 2 896]

theorem P512_at (s lo : ℕ) (x : S1x512x2048.Idx) : k0_pay17 (sc m c) (gRows m c s lo 512) (vMat m c) x = P512 m c s lo (x 1).val (x 2).val := by
  unfold P512; congr 1
  refine Shape.idx3_ext ?_ (Nat.mod_eq_of_lt (x 1).isLt).symm (Nat.mod_eq_of_lt (x 2).isLt).symm
  have : (x 0).val < 1 := (x 0).isLt
  show (x 0).val = 0; omega
theorem P256_at (s lo : ℕ) (x : S1x256x2048.Idx) : k0_pay27 (sc m c) (k0_pay26 (gRows m c s lo 256)) (vMat m c) x = P256 m c s lo (x 1).val (x 2).val := by
  unfold P256; congr 1
  refine Shape.idx3_ext ?_ (Nat.mod_eq_of_lt (x 1).isLt).symm (Nat.mod_eq_of_lt (x 2).isLt).symm
  have : (x 0).val < 1 := (x 0).isLt
  show (x 0).val = 0; omega
theorem P128_at (s lo : ℕ) (x : S1x128x2048.Idx) : k0_pay31 (sc m c) (k0_pay30 (gRows m c s lo 128)) (vMat m c) x = P128 m c s lo (x 1).val (x 2).val := by
  unfold P128; congr 1
  refine Shape.idx3_ext ?_ (Nat.mod_eq_of_lt (x 1).isLt).symm (Nat.mod_eq_of_lt (x 2).isLt).symm
  have : (x 0).val < 1 := (x 0).isLt
  show (x 0).val = 0; omega

/-- Casting a staged block is casting its elements. -/
theorem pay_x (q : ℕ) (x : S1x256x4096.Idx) : k0_pay2 (xRows m c q) x = tr (xN m c (256 * q + (x 1).val) (x 2).val) := by
  have h : k0_pay2 (xRows m c q) = shapeCast S1x256x4096 (shapeCast S256x4096 (fun i => tr (xRows m c q i)) shapeCasts_S1x256x4096_S256x4096)
    shapeCasts_S256x4096_S1x256x4096 := rfl
  rw [h, shapeCast_shapeCast]; rfl

theorem pay_w (q : ℕ) (x : S512x2048.Idx) : k0_pay8 (wRows m c q) x = tr (wN m c (512 * q + (x 0).val) (x 1).val) := by
  have h : k0_pay8 (wRows m c q) = shapeCast S512x2048 (shapeCast S512x2048 (fun i => tr (wRows m c q i)) shapeCasts_S1x512x2048_S512x2048)
    shapeCasts_S512x2048_S512x2048 := rfl
  rw [h, shapeCast_self]
  exact shapeCast_dropUnit_apply _ _ _ x

end Vectors

/-! ## Pieces of buffers -/

/-- The slot and the number of rows of output piece `j`. -/
def osl : Fin 12 → Fin 2 := ![0, 1, 0, 1, 0, 1, 0, 1, 0, 1, 0, 1]
def on : Fin 12 → ℕ := ![512, 512, 512, 512, 512, 512, 256, 256, 128, 128, 128, 128]
/-- Where piece `j` goes in the output. -/
def ooff (c : Dev nD) : Fin 12 → Fin 2 → ℕ :=
  ![k0_off1 c, k0_off2 c, k0_off3 c, k0_off4 c, k0_off5 c, k0_off6 c, k0_off7 c, k0_off8 c, k0_off9 c,
    k0_off10 c 512#32 256#32, k0_off10 c 256#32 128#32, k0_off11 c]

set_option backward.proofsInPublic true in
def wsem (s : Fin 2) : DmaSem sig := ⟨30 + s.val, by have := s.isLt; show 30 + s.val < 36; omega⟩
set_option backward.proofsInPublic true in
def xsem (s : Fin 2) : DmaSem sig := ⟨32 + s.val, by have := s.isLt; show 32 + s.val < 36; omega⟩
set_option backward.proofsInPublic true in
def osem (s : Fin 2) : DmaSem sig := ⟨34 + s.val, by have := s.isLt; show 34 + s.val < 36; omega⟩

section Pieces
variable (c : Dev nD)

/-- Contents of the staging slots, of the cast `w`, of an output slot and of the output when piece `j` is there. -/
def XS (q : ℕ) : Buf (Elt F) ((c : Thread nD τ).loc cc0_scratch3) := fun i => xN m c (256 * q + (i 1).val) (i 2).val
def WS (q : ℕ) : Buf (Elt F) ((c : Thread nD τ).loc cc0_scratch2) := fun i => wN m c (512 * q + (i 1).val) (i 2).val
def VS : Buf (Elt F) ((c : Thread nD τ).loc cc0_scratch1) := fun i => vN m c (i 0).val (i 1).val
def OS (j : Fin 12) : Buf (Elt F) ((c : Thread nD τ).loc cc0_scratch4) := fun i => PV m c j (i 1).val (i 2).val
def Y (j : Fin 12) : Buf (Elt F) ((c : Thread nD τ).loc main_v1) := fun i => PV m c j ((i 0).val - ooff c j 0) ((i 1).val - ooff c j 1)

def xRow (q : ℕ) : sProp 𝕄 := (c : Thread nD τ).loc main_arg0 ↦[box (s := S1024x4096) ![256 * q, 0] ![256, 4096]]{fullShare} m ((c : Thread nD τ).loc main_arg0)
def wRow (q : ℕ) : sProp 𝕄 := (c : Thread nD τ).loc main_arg1 ↦[box (s := S4096x2048) ![512 * q, 0] ![512, 2048]]{fullShare} m ((c : Thread nD τ).loc main_arg1)

def xAny (s : Fin 2) : sProp 𝕄 := iprop(∃ f, (c : Thread nD τ).loc cc0_scratch3 ↦[box (s := S2x256x4096) ![s.val, 0, 0] ![1, 256, 4096]]{fullShare} f)
def xSlot (s : Fin 2) (q : ℕ) : sProp 𝕄 := (c : Thread nD τ).loc cc0_scratch3 ↦[box (s := S2x256x4096) ![s.val, 0, 0] ![1, 256, 4096]]{fullShare} XS m c q
def xIdle (s : Fin 2) : sProp 𝕄 := semVal ((c : Thread nD τ), .dma (xsem s)) 0
def wAny (s : Fin 2) : sProp 𝕄 := iprop(∃ f, (c : Thread nD τ).loc cc0_scratch2 ↦[box (s := S2x512x2048) ![s.val, 0, 0] ![1, 512, 2048]]{fullShare} f)
def wSlot (s : Fin 2) (q : ℕ) : sProp 𝕄 := (c : Thread nD τ).loc cc0_scratch2 ↦[box (s := S2x512x2048) ![s.val, 0, 0] ![1, 512, 2048]]{fullShare} WS m c q
def wIdle (s : Fin 2) : sProp 𝕄 := semVal ((c : Thread nD τ), .dma (wsem s)) 0

/-- `n` rows from row `lo` of slot `s` of the gather buffer: at any contents, or holding the gathered ones at share `q`; -/
def gAny (s lo n : ℕ) : sProp 𝕄 := iprop(∃ f, xg c ↦[box (s := S4x1024x4096) ![s, lo, 0] ![1, n, 4096]]{fullShare} f)
def gPt (q : PosShare TreeShare) (s lo n : ℕ) : sProp 𝕄 := xg c ↦[box (s := S4x1024x4096) ![s, lo, 0] ![1, n, 4096]]{q} G m c
/-- of the cast `w`, eight bands and the whole. -/
def vAny (q : ℕ) : sProp 𝕄 := iprop(∃ f, (c : Thread nD τ).loc cc0_scratch1 ↦[box (s := S4096x2048) ![512 * q, 0] ![512, 2048]]{fullShare} f)
def vBand (q : ℕ) : sProp 𝕄 := (c : Thread nD τ).loc cc0_scratch1 ↦[box (s := S4096x2048) ![512 * q, 0] ![512, 2048]]{fullShare} VS m c
def vAll : sProp 𝕄 := (c : Thread nD τ).loc cc0_scratch1 ↦[box (s := S4096x2048) ![0, 0] ![4096, 2048]]{fullShare} VS m c

/-- The output slot's rows that piece `j` uses; its target in the output. -/
def oRest (s : Fin 2) (lo n : ℕ) : sProp 𝕄 := iprop(∃ f, (c : Thread nD τ).loc cc0_scratch4 ↦[box (s := S2x512x2048) ![s.val, lo, 0] ![1, n, 2048]]{fullShare} f)
def oSlot (j : Fin 12) : sProp 𝕄 := (c : Thread nD τ).loc cc0_scratch4 ↦[box (s := S2x512x2048) ![(osl j).val, 0, 0] ![1, on j, 2048]]{fullShare} OS m c j
def oIdle (s : Fin 2) : sProp 𝕄 := semVal ((c : Thread nD τ), .dma (osem s)) 0
def yAny (j : Fin 12) : sProp 𝕄 := iprop(∃ f, (c : Thread nD τ).loc main_v1 ↦[box (s := S4096x2048) (ooff c j) ![on j, 2048]]{fullShare} f)
def yPt (j : Fin 12) : sProp 𝕄 := (c : Thread nD τ).loc main_v1 ↦[box (s := S4096x2048) (ooff c j) ![on j, 2048]]{fullShare} Y m c j

/-- A block on its way into a staging slot; a piece on its way out. -/
def xFly (s : Fin 2) (q : ℕ) : sProp 𝕄 :=
  Transfers.Flight EC (c : Thread nD τ) (.dma (xsem s)) () ((cc0_scratch3 : Ref sig .tc).dmaCredit S256x4096 .f32) iprop(xSlot m c s q ∗ xRow m c q)
def wFly (s : Fin 2) (q : ℕ) : sProp 𝕄 :=
  Transfers.Flight EC (c : Thread nD τ) (.dma (wsem s)) () ((cc0_scratch2 : Ref sig .tc).dmaCredit S512x2048 .f32) iprop(wSlot m c s q ∗ wRow m c q)
def oFly (j : Fin 12) : sProp 𝕄 :=
  Transfers.Flight EC (c : Thread nD τ) (.dma (osem (osl j))) () ((main_v1 : Ref sig .tc).dmaCredit ⟨2, ![on j, 2048]⟩ .f32) iprop(yPt m c j ∗ oSlot m c j)

end Pieces

/-! ## Windows -/

/-- A window of a rank-two memref; a window of one slot of a rank-three one, without the slot's axis. -/
abbrev w2 {sp : Space} {D : Fin 2 → ℕ} {e : EltTy} (M : Memref sig .tc sp ⟨2, D⟩ e) (off size : Fin 2 → ℕ) (inb : ∀ a, off a + size a ≤ (⟨2, D⟩ : Shape).size a)
    (hr : ∀ a, (Rect.unit (s := ⟨2, D⟩) off size inb).stride a = 1) : Memref sig .tc sp ⟨2, size⟩ e := M.slice (Rect.unit (s := ⟨2, D⟩) off size inb) hr
abbrev w3 {sp : Space} {D : Fin 3 → ℕ} {e : EltTy} (M : Memref sig .tc sp ⟨3, D⟩ e) (off : Fin 3 → ℕ) (d : Fin 2 → ℕ)
    (inb : ∀ a, off a + (Matrix.vecCons 1 d : Fin 3 → ℕ) a ≤ (⟨3, D⟩ : Shape).size a)
    (hr : ∀ a, (Rect.unit (s := ⟨3, D⟩) off (Matrix.vecCons 1 d) inb).stride a = 1)
    (hq : (Rect.unit (s := ⟨3, D⟩) off (Matrix.vecCons 1 d) inb).shape.Squeezes ⟨2, d⟩) : Memref sig .tc sp ⟨2, d⟩ e :=
  (M.slice (Rect.unit (s := ⟨3, D⟩) off (Matrix.vecCons 1 d) inb) hr).squeeze ⟨2, d⟩ hq

abbrev aM : Memref sig .tc .hbm S1024x4096 .f32 := Memref.whole main_arg0
abbrev bM : Memref sig .tc .hbm S4096x2048 .f32 := Memref.whole main_arg1
abbrev yM : Memref sig .tc .hbm S4096x2048 .f32 := Memref.whole main_v1
abbrev gM : Memref sig .tc .vmem S4x1024x4096 .fp8e5m2 := Memref.whole cc0_scratch0
abbrev vM : Memref sig .tc .vmem S4096x2048 .fp8e5m2 := Memref.whole cc0_scratch1
abbrev wM : Memref sig .tc .vmem S2x512x2048 .f32 := Memref.whole cc0_scratch2
abbrev xM : Memref sig .tc .vmem S2x256x4096 .f32 := Memref.whole cc0_scratch3
abbrev oM : Memref sig .tc .vmem S2x512x2048 .f32 := Memref.whole cc0_scratch4

section Coords
variable (c : Dev nD)
theorem a_N2 : N2 aM (m ((c : Thread nD τ).loc main_arg0)) (xN m c) := fun i => by
  unfold xN
  refine congrArg (m ((c : Thread nD τ).loc main_arg0)) (funext fun a => Fin.ext ?_)
  match a with
  | ⟨0, _⟩ => exact (Nat.mod_eq_of_lt (i 0).isLt).symm
  | ⟨1, _⟩ => exact (Nat.mod_eq_of_lt (i 1).isLt).symm
theorem b_N2 : N2 bM (m ((c : Thread nD τ).loc main_arg1)) (wN m c) := fun i => by
  unfold wN
  refine congrArg (m ((c : Thread nD τ).loc main_arg1)) (funext fun a => Fin.ext ?_)
  match a with
  | ⟨0, _⟩ => exact (Nat.mod_eq_of_lt (i 0).isLt).symm
  | ⟨1, _⟩ => exact (Nat.mod_eq_of_lt (i 1).isLt).symm
theorem x_N3 (q : ℕ) : N3 xM (XS m c q) (fun _ r k => xN m c (256 * q + r) k) := fun _ => rfl
theorem w_N3 (q : ℕ) : N3 wM (WS m c q) (fun _ r k => wN m c (512 * q + r) k) := fun _ => rfl
theorem v_N2 : N2 vM (VS m c) (vN m c) := fun _ => rfl
theorem o_N3 (j : Fin 12) : N3 oM (OS m c j) (fun _ r k => PV m c j r k) := fun _ => rfl
theorem y_N2 (j : Fin 12) : N2 yM (Y m c j) (fun r k => PV m c j (r - ooff c j 0) (k - ooff c j 1)) := fun _ => rfl

/-- What the windows read. -/
theorem a_read (q : ℕ) (inb hr) (x : S256x4096.Idx) :
    (w2 aM ![256 * q, 0] ![256, 4096] inb hr).view.read (Elt F) (m ((c : Thread nD τ).loc main_arg0)) x = xN m c (256 * q + (x 0).val) (x 1).val := by
  rw [(a_N2 m c).slice]
  show xN m c (256 * q + (x 0).val) (0 + (x 1).val) = _; rw [Nat.zero_add]
theorem b_read (q : ℕ) (inb hr) (x : S512x2048.Idx) :
    (w2 bM ![512 * q, 0] ![512, 2048] inb hr).view.read (Elt F) (m ((c : Thread nD τ).loc main_arg1)) x = wN m c (512 * q + (x 0).val) (x 1).val := by
  rw [(b_N2 m c).slice]
  show wN m c (512 * q + (x 0).val) (0 + (x 1).val) = _; rw [Nat.zero_add]
theorem x_read (s q : ℕ) (inb hr hq) (x : S256x4096.Idx) :
    (w3 xM ![s, 0, 0] ![256, 4096] inb hr hq).view.read (Elt F) (XS m c q) x = xN m c (256 * q + (x 0).val) (x 1).val := by
  rw [(x_N3 m c q).squeeze _ _ inb hr hq hq.numel_eq x]
  show xN m c (256 * q + (0 + (x 0).val)) (0 + (x 1).val) = _; rw [Nat.zero_add, Nat.zero_add]
theorem w_read (s q : ℕ) (inb hr hq) (x : S512x2048.Idx) :
    (w3 wM ![s, 0, 0] ![512, 2048] inb hr hq).view.read (Elt F) (WS m c q) x = wN m c (512 * q + (x 0).val) (x 1).val := by
  rw [(w_N3 m c q).squeeze _ _ inb hr hq hq.numel_eq x]
  show wN m c (512 * q + (0 + (x 0).val)) (0 + (x 1).val) = _; rw [Nat.zero_add, Nat.zero_add]
theorem o_read (j : Fin 12) (s : ℕ) (d : Fin 2 → ℕ) (inb hr hq) (x : (⟨2, d⟩ : Shape).Idx) :
    (w3 oM ![s, 0, 0] d inb hr hq).view.read (Elt F) (OS m c j) x = PV m c j (x 0).val (x 1).val := by
  rw [(o_N3 m c j).squeeze _ _ inb hr hq hq.numel_eq x]
  show PV m c j (0 + (x 0).val) (0 + (x 1).val) = _; rw [Nat.zero_add, Nat.zero_add]
theorem y_read (j : Fin 12) (d : Fin 2 → ℕ) (inb hr) (x : (⟨2, d⟩ : Shape).Idx) :
    (w2 yM (ooff c j) d inb hr).view.read (Elt F) (Y m c j) x = PV m c j (x 0).val (x 1).val := by
  rw [(y_N2 m c j).slice]
  show PV m c j (ooff c j 0 + (x 0).val - ooff c j 0) (ooff c j 1 + (x 1).val - ooff c j 1) = _
  rw [Nat.add_sub_cancel_left, Nat.add_sub_cancel_left]
end Coords

/-! ## The moves -/

section Moves
variable (K : Dev nD × Cell → ℕ) (c : Dev nD) {α : Type} {Q : α → sProp (MT nD τ sig Unit (Elt F) ℕ UU ℕ)}

/-- Fetch block `q` of `x` into slot `s`, -/
theorem x_start (s : Fin 2) (q : ℕ) {inb hr inb' hr' hq'} {hsrc hdst hsem}
    {k : PUnit → Prog (TpuEff nD τ sig (Elt F) Λ₀ .tc) α} :
    iprop(xRow m c q ∗ xAny c s ∗ xIdle c s)
      ⊢ iprop((xFly m c s q -∗ run c (k ⟨⟩) Q)
          -∗ run c (.op (.enqueueDma (w2 aM ![256 * q, 0] ![256, 4096] inb hr) (.here (w3 xM ![s.val, 0, 0] ![256, 4096] inb' hr' hq')) (.dma (xsem s)) hsrc hdst hsem) k) Q) :=
  step_copy c (src := w2 aM ![256 * q, 0] ![256, 4096] inb hr) (dst := w3 xM ![s.val, 0, 0] ![256, 4096] inb' hr' hq') ((cc0_scratch3 : Ref sig .tc).dmaCredit S256x4096 .f32) rfl (by decide) (slice_set _ _ _ _ _) (squeeze_set _ _ _ _ _ _) _ (XS m c q)
    fun x => (x_read m c s.val q _ _ _ x).trans (a_read m c q _ _ x).symm
/-- block `q` of `w`, -/
theorem w_start (s : Fin 2) (q : ℕ) {inb hr inb' hr' hq'} {hsrc hdst hsem}
    {k : PUnit → Prog (TpuEff nD τ sig (Elt F) Λ₀ .tc) α} :
    iprop(wRow m c q ∗ wAny c s ∗ wIdle c s)
      ⊢ iprop((wFly m c s q -∗ run c (k ⟨⟩) Q)
          -∗ run c (.op (.enqueueDma (w2 bM ![512 * q, 0] ![512, 2048] inb hr) (.here (w3 wM ![s.val, 0, 0] ![512, 2048] inb' hr' hq')) (.dma (wsem s)) hsrc hdst hsem) k) Q) :=
  step_copy c (src := w2 bM ![512 * q, 0] ![512, 2048] inb hr) (dst := w3 wM ![s.val, 0, 0] ![512, 2048] inb' hr' hq') ((cc0_scratch2 : Ref sig .tc).dmaCredit S512x2048 .f32) rfl (by decide) (slice_set _ _ _ _ _) (squeeze_set _ _ _ _ _ _) _ (WS m c q)
    fun x => (w_read m c s.val q _ _ _ x).trans (b_read m c q _ _ x).symm

theorem o_credit : ∀ j : Fin 12, 0 < (main_v1 : Ref sig .tc).dmaCredit ⟨2, ![on j, 2048]⟩ .f32 := by decide

/-- copy piece `j` out of its slot. -/
theorem o_start (j : Fin 12) (s : Fin 2) (n : ℕ) (hs : osl j = s) (hn : on j = n) {inb hr inb' hr' hq'} {hsrc hdst hsem}
    {k : PUnit → Prog (TpuEff nD τ sig (Elt F) Λ₀ .tc) α} :
    iprop(oSlot m c j ∗ yAny c j ∗ oIdle c s)
      ⊢ iprop((oFly m c j -∗ run c (k ⟨⟩) Q)
          -∗ run c (.op (.enqueueDma (w3 oM ![s.val, 0, 0] ![n, 2048] inb' hr' hq') (.here (w2 yM (ooff c j) ![n, 2048] inb hr)) (.dma (osem s)) hsrc hdst hsem) k) Q) := by
  subst hs hn
  exact step_copy c (src := w3 oM ![(osl j).val, 0, 0] ![on j, 2048] inb' hr' hq') (dst := w2 yM (ooff c j) ![on j, 2048] inb hr)
    ((main_v1 : Ref sig .tc).dmaCredit ⟨2, ![on j, 2048]⟩ .f32) rfl (o_credit j) (squeeze_set _ _ _ _ _ _) (slice_set _ _ _ _ _) _ (Y m c j)
    fun x => (y_read m c j _ _ _ x).trans (o_read m c j _ _ _ _ _ x).symm

/-- The waits for these three. -/
theorem x_wait (s : Fin 2) (q : ℕ) (l : List (Fin 14)) {sp' : Space} {s' : Shape} {e' : EltTy} {srcw : Memref sig .tc sp' s' e'} {inb hr hq} {hsrc hdst}
    {k : PUnit → Prog (TpuEff nD τ sig (Elt F) Λ₀ .tc) α} :
    iprop(Env m K ∗ xFly m c s q ∗ Ow c l)
      ⊢ iprop((iprop((xSlot m c s q ∗ xRow m c q) ∗ xIdle c s ∗ Ow c l) -∗ run c (k ⟨⟩) Q)
          -∗ run c (.op (.waitDma2 (xsem s) srcw (w3 xM ![s.val, 0, 0] ![256, 4096] inb hr hq) hsrc hdst) k) Q) :=
  step_wait m K c ((by decide : ∀ s, lvl (.dma (xsem s)) = 0) s) rfl l
theorem w_wait (s : Fin 2) (q : ℕ) (l : List (Fin 14)) {sp' : Space} {s' : Shape} {e' : EltTy} {srcw : Memref sig .tc sp' s' e'} {inb hr hq} {hsrc hdst}
    {k : PUnit → Prog (TpuEff nD τ sig (Elt F) Λ₀ .tc) α} :
    iprop(Env m K ∗ wFly m c s q ∗ Ow c l)
      ⊢ iprop((iprop((wSlot m c s q ∗ wRow m c q) ∗ wIdle c s ∗ Ow c l) -∗ run c (k ⟨⟩) Q)
          -∗ run c (.op (.waitDma2 (wsem s) srcw (w3 wM ![s.val, 0, 0] ![512, 2048] inb hr hq) hsrc hdst) k) Q) :=
  step_wait m K c ((by decide : ∀ s, lvl (.dma (wsem s)) = 0) s) rfl l
theorem o_wait (j : Fin 12) (s : Fin 2) (n : ℕ) (hs : osl j = s) (hn : on j = n) (l : List (Fin 14))
    {sp' : Space} {s' : Shape} {e' : EltTy} {srcw : Memref sig .tc sp' s' e'} {off inb hr} {hsrc hdst}
    {k : PUnit → Prog (TpuEff nD τ sig (Elt F) Λ₀ .tc) α} :
    iprop(Env m K ∗ oFly m c j ∗ Ow c l)
      ⊢ iprop((iprop((yPt m c j ∗ oRest c s 0 n) ∗ oIdle c s ∗ Ow c l) -∗ run c (k ⟨⟩) Q)
          -∗ run c (.op (.waitDma2 (osem s) srcw (w2 yM off ![n, 2048] inb hr) hsrc hdst) k) Q) := by
  subst hs hn
  refine BIBase.Entails.trans (step_wait m K c (sem := osem (osl j)) (N := (main_v1 : Ref sig .tc).dmaCredit ⟨2, ![on j, 2048]⟩ .f32) (D := iprop(yPt m c j ∗ oSlot m c j))
    (dstw := w2 yM off ![on j, 2048] inb hr) (hdst := hdst) (srcw := srcw) (hsrc := hsrc) (k := k) (Q := Q)
    ((by decide : ∀ s, lvl (.dma (osem s)) = 0) (osl j)) rfl l) ?_
  iintro H Hk
  iapply H
  iintro ⟨⟨H1, H2⟩, H3⟩
  iapply Hk
  isplitl [H1 H2]
  · isplitl [H1]; · iexact H1
    unfold oSlot oRest; iexists _; iexact H2
  iexact H3

/-- Load a staged block of `x`, of `w`; -/
theorem x_load (s : Fin 2) (q : ℕ) {inb hl} {k : Vec F S1x256x4096 .f32 → Prog (TpuEff nD τ sig (Elt F) Λ₀ .tc) α} :
    xSlot m c s q ⊢ iprop((xSlot m c s q -∗ run c (k (xRows m c q)) Q)
      -∗ run c (.op (.load xM (Rect.unit (s := S2x256x4096) ![s.val, 0, 0] S1x256x4096.size inb).toLoadRect hl) k) Q) :=
  step_load c (k := k) (M := xM) (r := Rect.unit (s := S2x256x4096) ![s.val, 0, 0] S1x256x4096.size inb) ((View.set_slice_whole _ _).trans (unit_set _ _ _)) (xRows m c q) fun x => by
    refine ((x_N3 m c q).load _ _ inb x).trans ?_
    show xN m c (256 * q + (0 + (x 1).val)) (0 + (x 2).val) = _; rw [Nat.zero_add, Nat.zero_add]; rfl
theorem w_load (s : Fin 2) (q : ℕ) {inb hl} {k : Vec F S1x512x2048 .f32 → Prog (TpuEff nD τ sig (Elt F) Λ₀ .tc) α} :
    wSlot m c s q ⊢ iprop((wSlot m c s q -∗ run c (k (wRows m c q)) Q)
      -∗ run c (.op (.load wM (Rect.unit (s := S2x512x2048) ![s.val, 0, 0] S1x512x2048.size inb).toLoadRect hl) k) Q) :=
  step_load c (k := k) (M := wM) (r := Rect.unit (s := S2x512x2048) ![s.val, 0, 0] S1x512x2048.size inb) ((View.set_slice_whole _ _).trans (unit_set _ _ _)) (wRows m c q) fun x => by
    refine ((w_N3 m c q).load _ _ inb x).trans ?_
    show wN m c (512 * q + (0 + (x 1).val)) (0 + (x 2).val) = _; rw [Nat.zero_add, Nat.zero_add]; rfl
/-- gathered rows; the cast `w`. -/
theorem g_load (q : PosShare TreeShare) (s lo n : ℕ) {inb hl} {k : Vec F ⟨3, ![1, n, 4096]⟩ .fp8e5m2 → Prog (TpuEff nD τ sig (Elt F) Λ₀ .tc) α} :
    gPt m c q s lo n ⊢ iprop((gPt m c q s lo n -∗ run c (k (gRows m c s lo n)) Q)
      -∗ run c (.op (.load gM (Rect.unit (s := S4x1024x4096) ![s, lo, 0] ![1, n, 4096] inb).toLoadRect hl) k) Q) :=
  step_load c (k := k) (M := gM) (r := Rect.unit (s := S4x1024x4096) ![s, lo, 0] ![1, n, 4096] inb) ((View.set_slice_whole _ _).trans (unit_set _ _ _)) (gRows m c s lo n) fun x => by
    refine ((G_N3 m c).load _ _ inb x).trans ?_
    have h : (x 0).val = 0 := by have : (x 0).val < 1 := (x 0).isLt; omega
    show gN m c (s + (x 0).val) (lo + (x 1).val) (0 + (x 2).val) = _; rw [h, Nat.zero_add, Nat.add_zero]; rfl
theorem v_load {inb hl} {k : Vec F S4096x2048 .fp8e5m2 → Prog (TpuEff nD τ sig (Elt F) Λ₀ .tc) α} :
    vAll m c ⊢ iprop((vAll m c -∗ run c (k (vMat m c)) Q)
      -∗ run c (.op (.load vM (Rect.unit (s := S4096x2048) ![0, 0] S4096x2048.size inb).toLoadRect hl) k) Q) :=
  step_load c (k := k) (M := vM) (r := Rect.unit (s := S4096x2048) ![0, 0] S4096x2048.size inb) ((View.set_slice_whole _ _).trans (unit_set _ _ _)) (vMat m c) fun x => by
    refine ((v_N2 m c).load _ _ inb x).trans ?_
    show vN m c (0 + (x 0).val) (0 + (x 1).val) = _; rw [Nat.zero_add, Nat.zero_add]; rfl

/-- Store the cast of block `q` of `x`, of `w`; -/
theorem g_put (q : ℕ) {w : Vec F S1x256x4096 .fp8e5m2} (hw : ∀ x, w x = tr (xN m c (256 * q + (x 1).val) (x 2).val)) {inb hl hx hm}
    {k : PUnit → Prog (TpuEff nD τ sig (Elt F) Λ₀ .tc) α} :
    gAny c 3 (256 * q) 256 ⊢ iprop((gPt m c fullShare 3 (256 * q) 256 -∗ run c (k ⟨⟩) Q)
      -∗ run c (.op (.load gM (Rect.unit (s := S4x1024x4096) ![3, 256 * q, 0] S1x256x4096.size inb).toLoadRect hl) fun _ =>
          .op (.store gM (Rect.unit (s := S4x1024x4096) ![3, 256 * q, 0] S1x256x4096.size inb) w Finset.univ hx hm) k) Q) :=
  step_put c (M := gM) ((View.set_slice_whole _ _).trans (unit_set _ _ _)) (G m c) fun x => by
    refine ((G_N3 m c).load _ _ inb x).trans ?_
    have h : (x 0).val = 0 := by have : (x 0).val < 1 := (x 0).isLt; omega
    show gN m c (3 + (x 0).val) (256 * q + (x 1).val) (0 + (x 2).val) = _; rw [h, Nat.zero_add, hw]; rfl
theorem v_put (q : ℕ) {w : Vec F S512x2048 .fp8e5m2} (hw : ∀ x, w x = tr (wN m c (512 * q + (x 0).val) (x 1).val)) {inb hl hx hm}
    {k : PUnit → Prog (TpuEff nD τ sig (Elt F) Λ₀ .tc) α} :
    vAny c q ⊢ iprop((vBand m c q -∗ run c (k ⟨⟩) Q)
      -∗ run c (.op (.load vM (Rect.unit (s := S4096x2048) ![512 * q, 0] S512x2048.size inb).toLoadRect hl) fun _ =>
          .op (.store vM (Rect.unit (s := S4096x2048) ![512 * q, 0] S512x2048.size inb) w Finset.univ hx hm) k) Q) :=
  step_put c (M := vM) ((View.set_slice_whole _ _).trans (unit_set _ _ _)) (VS m c) fun x => by
    refine ((v_N2 m c).load _ _ inb x).trans ?_
    show vN m c (512 * q + (x 0).val) (0 + (x 1).val) = _; rw [Nat.zero_add, hw]; rfl
/-- store piece `j`. -/
theorem o_put (j : Fin 12) (s : Fin 2) (n : ℕ) (hs : osl j = s) (hn : on j = n) {w : Vec F ⟨3, ![1, n, 2048]⟩ .f32}
    (hw : ∀ x, w x = PV m c j (x 1).val (x 2).val) {inb hl hx hm}
    {k : PUnit → Prog (TpuEff nD τ sig (Elt F) Λ₀ .tc) α} :
    oRest c s 0 n ⊢ iprop((oSlot m c j -∗ run c (k ⟨⟩) Q)
      -∗ run c (.op (.load oM (Rect.unit (s := S2x512x2048) ![s.val, 0, 0] ![1, n, 2048] inb).toLoadRect hl) fun _ =>
          .op (.store oM (Rect.unit (s := S2x512x2048) ![s.val, 0, 0] ![1, n, 2048] inb) w Finset.univ hx hm) k) Q) := by
  subst hs hn
  exact step_put c (M := oM) ((View.set_slice_whole _ _).trans (unit_set _ _ _)) (OS m c j) fun x => by
    refine ((o_N3 m c j).load _ _ inb x).trans ?_
    show PV m c j (0 + (x 1).val) (0 + (x 2).val) = _; rw [Nat.zero_add, Nat.zero_add, hw]

/-- The rows of the neighbour's gather buffer that copy `i` fills, and what the copy needs beside them and its source. -/
def sReady (i : Fin 14) : sProp 𝕄 := iprop(sIn c i ∗ ∃ f, landPt (peer (cright i) c) i f)

/-- Send copy `i`, wait for the copy `i` coming in, wait for the copy `i` sent to have left. -/
theorem g_send (i : Fin 14) (q : PosShare TreeShare) (s t lo n : ℕ) (hq : cq i = q) (hs : csrc i = s) (ht : cdst i = t) (hlo : clo i = lo) (hn : cn i = n)
    (l : List (Fin 14)) {p : Dev nD} (hp : p = peer (cright i) c) {inbS hrS hqS inbD hrD hqD}
    {hsc : (gWin ![t, lo, 0] ![n, 4096] inbD hrD hqD : Memref sig (Dev.tc p : Thread nD τ).2.kind .vmem ⟨2, ![n, 4096]⟩ .fp8e5m2).view.ref.isScScratch = false}
    {hsrc : (gWin ![s, lo, 0] ![n, 4096] inbS hrS hqS).view.WordExact} {hdst : (gWin ![t, lo, 0] ![n, 4096] inbD hrD hqD).view.WordExact}
    {hsem : DmaTarget.Typed .vmem (.dma (recvS i)) (.remote (Dev.tc p : Thread nD τ) (gWin ![t, lo, 0] ![n, 4096] inbD hrD hqD : Memref sig (Dev.tc p : Thread nD τ).2.kind .vmem ⟨2, ![n, 4096]⟩ .fp8e5m2) (.dma (sendS i)) hsc)}
    {k : PUnit → Prog (TpuEff nD τ sig (Elt F) Λ₀ .tc) α} :
    iprop(Env m K ∗ sReady c i ∗ gPt m c q s lo n ∗ Ow c (i :: l))
      ⊢ iprop((iprop(sOut c i ∗ Ow c l) -∗ run c (k ⟨⟩) Q)
          -∗ run c (.op (.enqueueDma (gWin ![s, lo, 0] ![n, 4096] inbS hrS hqS) (.remote (Dev.tc p : Thread nD τ) (gWin ![t, lo, 0] ![n, 4096] inbD hrD hqD) (.dma (sendS i)) hsc) (.dma (recvS i)) hsrc hdst hsem) k) Q) := by
  subst hq hs ht hlo hn
  refine BIBase.Entails.trans ?_ (step_send m K c i l hp rfl rfl rfl rfl rfl)
  unfold sReady gPt srcPt
  iintro ⟨H1, ⟨H2, H3⟩, H4, H5⟩
  isplitl [H1]; · iexact H1
  isplitl [H2]; · iexact H2
  isplitl [H3]; · iexact H3
  isplitl [H4]; · iexact H4
  iexact H5

theorem g_recv (i : Fin 14) (s lo n : ℕ) (hs : cdst i = s) (hlo : clo i = lo) (hn : cn i = n) (l : List (Fin 14))
    (hl : ∀ j ∈ l, lvl (.dma (recvS i)) < lvl (.dma (recvS j)))
    {sp' : Space} {s' : Shape} {e' : EltTy} {srcw : Memref sig .tc sp' s' e'} {off inb hr hq} {hsrc hdst}
    {k : PUnit → Prog (TpuEff nD τ sig (Elt F) Λ₀ .tc) α} :
    iprop(Env m K ∗ rIn c i ∗ Ow c l)
      ⊢ iprop((iprop(gPt m c fullShare s lo n ∗ semVal (recvCell c i) 0 ∗ Ow c l) -∗ run c (k ⟨⟩) Q)
          -∗ run c (.op (.waitDma2 (recvS i) srcw (gWin off ![n, 4096] inb hr hq) hsrc hdst) k) Q) := by
  subst hs hlo hn
  exact step_recv m K c i l hl rfl (dstw := gWin off ![cn i, 4096] inb hr hq) rfl

theorem g_sent (i : Fin 14) (q : PosShare TreeShare) (s lo n : ℕ) (hcq : cq i = q) (hs : csrc i = s) (hlo : clo i = lo) (hn : cn i = n)
    {sp' : Space} {s' : Shape} {e' : EltTy} {srcw : Memref sig .tc sp' s' e'} {off inb hr hq} {hsrc hdst}
    {k : PUnit → Prog (TpuEff nD τ sig (Elt F) Λ₀ .tc) α} :
    iprop(Env m K ∗ sOut c i ∗ Ow c [])
      ⊢ iprop((iprop(gPt m c q s lo n ∗ semVal (sendCell c i) 0 ∗ Ow c []) -∗ run c (k ⟨⟩) Q)
          -∗ run c (.op (.waitDma2 (sendS i) srcw (gWin off ![n, 4096] inb hr hq) hsrc hdst) k) Q) := by
  subst hcq hs hlo hn
  exact step_sent m K c i rfl (dstw := gWin off ![cn i, 4096] inb hr hq) rfl

end Moves

/-! ## Cutting and joining pieces -/

section Cuts
variable (c : Dev nD)

theorem box3_rows {D : Fin 3 → ℕ} (s lo n a b k : ℕ) (h : n = a + b) :
    box (s := ⟨3, D⟩) ![s, lo, 0] ![1, n, k] = box ![s, lo, 0] ![1, a, k] ∪ box ![s, lo + a, 0] ![1, b, k]
      ∧ Disjoint (box (s := ⟨3, D⟩) ![s, lo, 0] ![1, a, k]) (box ![s, lo + a, 0] ![1, b, k]) := by
  subst h
  exact box_cut (1 : Fin 3) (by intro x hx; fin_cases x <;> simp_all) rfl rfl

theorem box2_rows {D : Fin 2 → ℕ} (lo n a b k : ℕ) (h : n = a + b) :
    box (s := ⟨2, D⟩) ![lo, 0] ![n, k] = box ![lo, 0] ![a, k] ∪ box ![lo + a, 0] ![b, k]
      ∧ Disjoint (box (s := ⟨2, D⟩) ![lo, 0] ![a, k]) (box ![lo + a, 0] ![b, k]) := by
  subst h
  exact box_cut (0 : Fin 2) (by intro x hx; fin_cases x <;> simp_all) rfl rfl

/-- Gathered rows, by rows and by shares. -/
theorem gPt_cut (q : PosShare TreeShare) (s lo n a b lo' : ℕ) (hn : n = a + b) (hl : lo' = lo + a) :
    gPt m c q s lo n ⊣⊢ iprop(gPt m c q s lo a ∗ gPt m c q s lo' b) := by
  subst hl
  have h := box3_rows (D := ![4, 1024, 4096]) s lo n a b 4096 hn
  unfold gPt
  rw [h.1]
  exact pointsTo_union h.2
theorem gPt_share (q : PosShare TreeShare) (s lo n : ℕ) :
    gPt m c q s lo n ⊣⊢ iprop(gPt m c q.left s lo n ∗ gPt m c q.right s lo n) :=
  pointsTo_share (PosShare.mem_left_op_right q)

/-- Output slots, at any contents, by rows. -/
theorem oRest_cut (s : Fin 2) (lo n a b lo' : ℕ) (hn : n = a + b) (hl : lo' = lo + a) : oRest (F := F) c s lo n ⊢ iprop(oRest c s lo a ∗ oRest c s lo' b) := by
  subst hl
  have h := box3_rows (D := ![2, 512, 2048]) s.val lo n a b 2048 hn
  unfold oRest
  iintro ⟨%f, H⟩
  rw [h.1]
  ihave H := (pointsTo_union h.2).1 $$ H
  icases H with ⟨H1, H2⟩
  isplitl [H1]
  · iexists f; iexact H1
  · iexists f; iexact H2
theorem oRest_join (s : Fin 2) (lo n a b lo' : ℕ) (hn : n = a + b) (hl : lo' = lo + a) : iprop(oRest c s lo a ∗ oRest c s lo' b) ⊢ oRest (F := F) c s lo n := by
  subst hl
  have h := box3_rows (D := ![2, 512, 2048]) s.val lo n a b 2048 hn
  unfold oRest
  iintro ⟨⟨%f, H1⟩, ⟨%g, H2⟩⟩
  rw [h.1]
  iexists _
  iapply (pointsTo_join h.2)
  isplitl [H1]; · iexact H1
  iexact H2

/-- Rows of the device's own shard, one share for each of the two copies out of them and one for the loads. -/
theorem own_split (lo : ℕ) :
    gPt m c fullShare 3 lo 256 ⊢ iprop(gPt m c fullShare.left 3 lo 256 ∗ gPt m c fullShare.right.left 3 lo 256 ∗ gPt m c fullShare.right.right 3 lo 256) := by
  iintro H
  ihave H := (gPt_share m c fullShare 3 lo 256).1 $$ H
  icases H with ⟨H1, H2⟩
  ihave H2 := (gPt_share m c fullShare.right 3 lo 256).1 $$ H2
  icases H2 with ⟨H2, H3⟩
  iframe

/-- The first rows that came in are sent on in a piece of `256` and two of `128`; a share of them stays for the load. -/
theorem pass_split (s lo lo₁ lo₂ : ℕ) (h₁ : lo₁ = lo + 256) (h₂ : lo₂ = lo₁ + 128) :
    iprop(gPt m c fullShare s lo 256 ∗ gPt m c fullShare s lo₁ 256)
      ⊢ iprop(gPt m c fullShare.left s lo 256 ∗ gPt m c fullShare.left s lo₁ 128 ∗ gPt m c fullShare.left s lo₂ 128 ∗ gPt m c fullShare.right s lo 512) := by
  iintro ⟨H1, H2⟩
  ihave H := (gPt_cut m c fullShare s lo 512 256 256 lo₁ rfl h₁).2 $$ [H1 H2]
  · iframe
  ihave H := (gPt_share m c fullShare s lo 512).1 $$ H
  icases H with ⟨H1, H2⟩
  ihave H1 := (gPt_cut m c fullShare.left s lo 512 256 256 lo₁ rfl h₁).1 $$ H1
  icases H1 with ⟨H1, H3⟩
  ihave H3 := (gPt_cut m c fullShare.left s lo₁ 256 128 128 lo₂ rfl h₂).1 $$ H3
  icases H3 with ⟨H3, H4⟩
  iframe

/-- The eight bands of the cast `w` make it up. -/
theorem vBand_join (n lo q : ℕ) (h : lo = 512 * q) (hn : n = lo + 512) :
    iprop(((c : Thread nD τ).loc cc0_scratch1 ↦[box (s := S4096x2048) ![0, 0] ![lo, 2048]]{fullShare} VS m c) ∗ vBand m c q)
      ⊢ ((c : Thread nD τ).loc cc0_scratch1 ↦[box (s := S4096x2048) ![0, 0] ![n, 2048]]{fullShare} VS m c) := by
  have h' := box2_rows (D := ![4096, 2048]) 0 n lo 512 2048 hn
  unfold vBand
  rw [h'.1, ← h, Nat.zero_add]
  rw [Nat.zero_add] at h'
  exact (pointsTo_union h'.2).2
theorem v_join : iprop(vBand m c 0 ∗ vBand m c 1 ∗ vBand m c 2 ∗ vBand m c 3 ∗ vBand m c 4 ∗ vBand m c 5 ∗ vBand m c 6 ∗ vBand m c 7) ⊢ vAll m c := by
  iintro ⟨H0, H1, H2, H3, H4, H5, H6, H7⟩
  unfold vAll
  iapply (vBand_join m c 4096 3584 7 rfl rfl); isplitr [H7]; rotate_left; · iexact H7
  iapply (vBand_join m c 3584 3072 6 rfl rfl); isplitr [H6]; rotate_left; · iexact H6
  iapply (vBand_join m c 3072 2560 5 rfl rfl); isplitr [H5]; rotate_left; · iexact H5
  iapply (vBand_join m c 2560 2048 4 rfl rfl); isplitr [H4]; rotate_left; · iexact H4
  iapply (vBand_join m c 2048 1536 3 rfl rfl); isplitr [H3]; rotate_left; · iexact H3
  iapply (vBand_join m c 1536 1024 2 rfl rfl); isplitr [H2]; rotate_left; · iexact H2
  iapply (vBand_join m c 1024 512 1 rfl rfl); isplitr [H1]; rotate_left; · iexact H1
  unfold vBand; iexact H0

end Cuts

end Cert.RingGemm

end
-- ==== Proof.Parts.lean ====
/-
# The parts of the body, at the kernel's buffers

The body is printed in thirty-one parts, each over the same fifteen operands. Here each part is named at the buffers the
launch gives it, and the devices its signals and copies go to are computed.
-/
module

public import proofs.«01_k».proof.Proof.Moves

@[expose] public section

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-! ## Whom the signals and copies go to -/

theorem dev1_eq : (⟨k0_dev1 c, k0_dev1_lt c⟩ : Dev nD) = peer false c := by revert c; decide +kernel
theorem dev2_eq : (⟨k0_dev2 c, k0_dev2_lt c⟩ : Dev nD) = peer true c := by revert c; decide +kernel
theorem dev3_eq : (⟨k0_dev3 c, k0_dev3_lt c⟩ : Dev nD) = peer (cright 0) c := by revert c; decide +kernel
theorem dev4_eq : (⟨k0_dev4 c, k0_dev4_lt c⟩ : Dev nD) = peer (cright 4) c := by revert c; decide +kernel
theorem dev5_eq : (⟨k0_dev5 c, k0_dev5_lt c⟩ : Dev nD) = peer (cright 1) c := by revert c; decide +kernel
theorem dev6_eq : (⟨k0_dev6 c, k0_dev6_lt c⟩ : Dev nD) = peer (cright 5) c := by revert c; decide +kernel
theorem dev7_eq : (⟨k0_dev7 c, k0_dev7_lt c⟩ : Dev nD) = peer (cright 2) c := by revert c; decide +kernel
theorem dev8_eq : (⟨k0_dev8 c, k0_dev8_lt c⟩ : Dev nD) = peer (cright 6) c := by revert c; decide +kernel
theorem dev9_eq : (⟨k0_dev9 c, k0_dev9_lt c⟩ : Dev nD) = peer (cright 3) c := by revert c; decide +kernel
theorem dev10_eq : (⟨k0_dev10 c, k0_dev10_lt c⟩ : Dev nD) = peer (cright 7) c := by revert c; decide +kernel
theorem dev11_eq : (⟨k0_dev11 c, k0_dev11_lt c⟩ : Dev nD) = peer (cright 8) c := by revert c; decide +kernel
theorem dev12_eq : (⟨k0_dev12 c, k0_dev12_lt c⟩ : Dev nD) = peer (cright 9) c := by revert c; decide +kernel
theorem dev13_eq : (⟨k0_dev13 c, k0_dev13_lt c⟩ : Dev nD) = peer (cright 10) c := by revert c; decide +kernel
theorem dev14_eq : (⟨k0_dev14 c, k0_dev14_lt c⟩ : Dev nD) = peer (cright 11) c := by revert c; decide +kernel
theorem dev15_eq : (⟨k0_dev15 c, k0_dev15_lt c⟩ : Dev nD) = peer (cright 12) c := by revert c; decide +kernel
theorem dev16_eq : (⟨k0_dev16 c, k0_dev16_lt c⟩ : Dev nD) = peer (cright 13) c := by revert c; decide +kernel

/-- The end of a part. -/
theorem run_ret {α : Type} {Q : α → sProp (MT nD τ sig Unit (Elt F) ℕ UU ℕ)} (a : α) : Q a ⊢ run c (.ret a) Q := by
  unfold run; rw [wp_ret]
  iintro H; imodintro; iexact H

/-- A staging slot that was read can be filled again. -/
theorem xSlot_any (s : Fin 2) (q : ℕ) : xSlot m c s q ⊢ xAny c s := by
  unfold xSlot xAny; iintro H; iexists _; iexact H
theorem wSlot_any (s : Fin 2) (q : ℕ) : wSlot m c s q ⊢ wAny c s := by
  unfold wSlot wAny; iintro H; iexists _; iexact H

/-! ## The parts -/

abbrev q1  := k0_part1 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9
abbrev q2 (d0 : Dev nD) (v13 : BitVec 32) (v24 : BitVec 32) := k0_part2 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 d0 v13 v24
abbrev q3 (d0 : Dev nD) (v13 : BitVec 32) (v24 : BitVec 32) := k0_part3 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 d0 v13 v24
abbrev q4 (d0 : Dev nD) (v13 : BitVec 32) (v24 : BitVec 32) := k0_part4 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 d0 v13 v24
abbrev q5 (d0 : Dev nD) (v13 : BitVec 32) (v24 : BitVec 32) := k0_part5 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 d0 v13 v24
abbrev q6 (d0 : Dev nD) (v24 : BitVec 32) := k0_part6 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 d0 v24
abbrev q7 (d0 : Dev nD) (v13 : BitVec 32) := k0_part7 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 d0 v13
abbrev q8 (v193 : FVec F S512x2048 .f32) := k0_part8 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 v193
abbrev q9  := k0_part9 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9
abbrev q10  := k0_part10 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9
abbrev q11 (v273 : FVec F S512x2048 .f32) := k0_part11 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 v273
abbrev q12 (d0 : Dev nD) (v2 : BitVec 32) (v27 : F .f32) (v300 : FVec F S512x2048 .f32) := k0_part12 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 d0 v2 v27 v300
abbrev q13 (d0 : Dev nD) (v24 : BitVec 32) (v329 : FVec F S512x2048 .f32) (v330 : FVec F S512x2048 .f32) := k0_part13 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 d0 v24 v329 v330
abbrev q14 (d0 : Dev nD) (v24 : BitVec 32) := k0_part14 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 d0 v24
abbrev q15 (d0 : Dev nD) (v13 : BitVec 32) (v27 : F .f32) := k0_part15 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 d0 v13 v27
abbrev q16 (d0 : Dev nD) (v13 : BitVec 32) (v24 : BitVec 32) (v27 : F .f32) := k0_part16 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 d0 v13 v24 v27
abbrev q17 (d0 : Dev nD) (v13 : BitVec 32) (v24 : BitVec 32) := k0_part17 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 d0 v13 v24
abbrev q18 (d0 : Dev nD) (v13 : BitVec 32) (v27 : F .f32) (v463 : FVec F S512x4096 .fp8e5m2) := k0_part18 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 d0 v13 v27 v463
abbrev q19 (d0 : Dev nD) (v13 : BitVec 32) (c1_i32_480 : BitVec 32) := k0_part19 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 d0 v13 c1_i32_480
abbrev q20 (d0 : Dev nD) (v13 : BitVec 32) (v24 : BitVec 32) (v27 : F .f32) := k0_part20 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 d0 v13 v24 v27
abbrev q21 (d0 : Dev nD) (v2 : BitVec 32) (v24 : BitVec 32) := k0_part21 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 d0 v2 v24
abbrev q22 (d0 : Dev nD) (v13 : BitVec 32) (v27 : F .f32) (v565 : BitVec 32) (v575 : FVec F S256x4096 .fp8e5m2) := k0_part22 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 d0 v13 v27 v565 v575
abbrev q23 (d0 : Dev nD) (v24 : BitVec 32) (v27 : F .f32) (v565 : BitVec 32) (v604 : FVec F S256x4096 .fp8e5m2) := k0_part23 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 d0 v24 v27 v565 v604
abbrev q24 (d0 : Dev nD) (v13 : BitVec 32) (v27 : F .f32) (v634 : FVec F S128x4096 .fp8e5m2) := k0_part24 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 d0 v13 v27 v634
abbrev q25 (d0 : Dev nD) (v24 : BitVec 32) (v27 : F .f32) (v565 : BitVec 32) := k0_part25 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 d0 v24 v27 v565
abbrev q26 (d0 : Dev nD) (v13 : BitVec 32) (v27 : F .f32) (v565 : BitVec 32) := k0_part26 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 d0 v13 v27 v565
abbrev q27 (d0 : Dev nD) (v27 : F .f32) (v565 : BitVec 32) := k0_part27 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 d0 v27 v565
abbrev q28 (d0 : Dev nD) := k0_part28 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9 d0
abbrev q29  := k0_part29 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9
abbrev q30  := k0_part30 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9
abbrev q31  := k0_part31 (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9

end Cert.RingGemm

end
-- ==== Proof.PartsA.lean ====
/-
# The first parts of the body: the barrier, and the device's own shard

The scales are read, the two neighbours are signalled and waited for, and the four blocks of the shard of `x` are
fetched, cast and sent both ways.
-/
module

public import proofs.«01_k».proof.Proof.Parts
public import Idealize.ShloMosaic.Lib.ValueIdxCoords

@[expose] public section

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-- Reading a scale from its staging word. -/
theorem scale_load {α : Type} {Q : α → sProp (MT nD τ sig Unit (Elt F) ℕ UU ℕ)} (M : Memref sig .tc .smem S1 .f32)
    (f : Buf (Elt F) (M.view.loc (c : Thread nD τ))) {inb hl}
    {k : Vec F S1 .f32 → Prog (TpuEff nD τ sig (Elt F) Λ₀ .tc) α} :
    (M.view.loc (c : Thread nD τ) ↦{fullShare} f) ⊢ iprop(((M.view.loc (c : Thread nD τ) ↦{fullShare} f) -∗ run c (k fun _ => M.view.read (Elt F) f zero1) Q)
      -∗ run c (.op (.load M (Rect.unit (s := S1) ![0] S1.size inb).toLoadRect hl) k) Q) := by
  have h := wp_load_rect (defs := defs₀ (F := F)) 𝒱₀ (c : Thread nD τ) none (Γ := []) Set.univ (Q := Q) (m := M) (r := Rect.unit (s := S1) ![0] S1.size inb)
    (hl := hl) (k := k) (S := Finset.univ) (q := fullShare) (f := f) (Finset.subset_univ _)
  rw [show (M.access (Rect.unit (s := S1) ![0] S1.size inb)).read (Elt F) f = fun _ => M.view.read (Elt F) f zero1 from funext fun x =>
    congrArg (M.view.read (Elt F) f) (by rw [ValueIdx.eq_ix1_u0 zero1]; exact ValueIdx.eq_ix1_u0 _)] at h
  exact h

/-- The scales are read and the first block of `x` is started. -/
theorem part1 {Kt : _ → sProp (MT nD τ sig Unit (Elt F) ℕ UU ℕ)} (f0 : Buf (Elt F) ((c : Thread nD τ).loc cc0_stg0_0)) (f1 : Buf (Elt F) ((c : Thread nD τ).loc cc0_stg1_0))
    (h : k0_pay1 (f0 zero1) (f1 zero1) = sc m c) :
    iprop((((c : Thread nD τ).loc cc0_stg0_0 ↦{fullShare} f0) ∗ ((c : Thread nD τ).loc cc0_stg1_0 ↦{fullShare} f1) ∗ xRow m c 0 ∗ xAny c 0 ∗ xIdle c 0)
      ∗ (∀ v2 v13 v24, (((c : Thread nD τ).loc cc0_stg0_0 ↦{fullShare} f0) ∗ ((c : Thread nD τ).loc cc0_stg1_0 ↦{fullShare} f1) ∗ xFly m c 0 0)
        -∗ Kt ⟨c, v2, v13, v24, sc m c⟩))
      ⊢ run c (q1 (F := F)) Kt := by
  unfold q1; rw [k0_part1_eq_skeleton]; unfold k0_part1_skel
  simp only [smemLoad, smemLoadElt, Prog.lift, Prog.bind_op, Prog.bind_ret, Prog.pure_eq_ret, run, wp_deviceId]
  iintro ⟨⟨H0, H1, Hx, Hs, Hi⟩, Hk⟩
  iapply (scale_load c (Memref.whole cc0_stg0_0) f0) $$ H0
  iintro H0
  iapply (scale_load c (Memref.whole cc0_stg1_0) f1) $$ H1
  iintro H1
  iapply (x_start m c 0 0) $$ [Hx Hs Hi]
  · iframe
  iintro Hf
  rw [show k0_pay1 ((Memref.whole cc0_stg0_0).view.read (Elt F) f0 zero1) ((Memref.whole cc0_stg1_0).view.read (Elt F) f1 zero1) = sc m c from h]
  iapply run_ret
  iapply Hk
  iframe

/-- The barrier; the first block is cast into the gather buffer. -/
theorem part2 {Kt : PUnit → sProp (MT nD τ sig Unit (Elt F) ℕ UU ℕ)} (v13 v24 : BitVec 32) :
    iprop((Env m K ∗ xRow m c 1 ∗ xAny c 1 ∗ xIdle c 1 ∗ (∃ W, owes (c : Thread nD τ) (owe₀ c) W)
        ∗ dutyTok ER (barCell (peer false c)) 0 true ∗ barPay (peer false c) true ∗ dutyTok ER (barCell (peer true c)) 0 false ∗ barPay (peer true c) false
        ∗ cred (tallyAt (barCell c) () 2) ∗ atPos ER (barCell c) 0 ∅ 0 ∗ xFly m c 0 0 ∗ gAny c 3 0 256)
      ∗ ((xFly m c 1 1 ∗ (semVal (barCell c) 0 ∗ barPay c true ∗ barPay c false) ∗ xSlot m c 0 0 ∗ xRow m c 0 ∗ xIdle c 0 ∗ Ow c order ∗ gPt m c fullShare 3 0 256) -∗ Kt ⟨⟩))
      ⊢ run c (q2 c v13 v24) Kt := by
  unfold q2; rw [k0_part2_eq_skeleton]; unfold k0_part2_skel
  simp only [semSignalWord, semWaitWord, Prog.lift, Prog.bind_op, Prog.bind_ret, Prog.pure_eq_ret]
  simp only [dev1_eq c, dev2_eq c]
  iintro ⟨⟨#He, Hx, Hs, Hi, ⟨%W, HO⟩, Ht0, Hp0, Ht1, Hp1, Hc, Ha, Hf, Hg⟩, Hk⟩
  iapply (x_start m c 1 1) $$ [Hx Hs Hi]
  · iframe
  iintro Hf1
  iapply (step_signal m K c false rfl rfl rfl (owe₁ c) (owe₀ c) W rfl) $$ [HO Ht0 Hp0]
  · iframe He HO Ht0 Hp0
  iintro HO
  iapply (step_signal m K c true rfl rfl rfl (oweSends c order) (owe₁ c) _ rfl) $$ [HO Ht1 Hp1]
  · iframe He HO Ht1 Hp1
  iintro HO
  iapply (step_barrier m K c rfl rfl _) $$ [HO Hc Ha]
  · iframe He HO Hc Ha
  iintro ⟨HO, Hb⟩
  iapply (x_wait m K c 0 0 order) $$ [HO Hf]
  · iframe He HO Hf
  iintro ⟨⟨Hs, Hx⟩, Hi, HO⟩
  iapply (x_load m c 0 0) $$ Hs
  iintro Hs
  iapply (g_put m c 0 (pay_x m c 0)) $$ Hg
  iintro Hg
  iapply run_ret
  iapply Hk
  iframe

/-- It is sent both ways. -/
theorem part3 {Kt : PUnit → sProp (MT nD τ sig Unit (Elt F) ℕ UU ℕ)} (v13 v24 : BitVec 32) :
    iprop((Env m K ∗ xRow m c 2 ∗ xSlot m c 0 0 ∗ xIdle c 0 ∗ Ow c order ∗ gPt m c fullShare 3 0 256 ∗ sReady c 0 ∗ sReady c 4 ∗ xFly m c 1 1)
      ∗ ((xFly m c 0 2 ∗ sOut c 0 ∗ sOut c 4 ∗ xSlot m c 1 1 ∗ xRow m c 1 ∗ xIdle c 1 ∗ Ow c [1, 5, 2, 6, 3, 7, 8, 9, 10, 11, 12, 13]
          ∗ gPt m c fullShare.right.right 3 0 256) -∗ Kt ⟨⟩))
      ⊢ run c (q3 c v13 v24) Kt := by
  unfold q3; rw [k0_part3_eq_skeleton]; unfold k0_part3_skel
  simp only [Prog.lift, Prog.bind_op, Prog.bind_ret, Prog.pure_eq_ret]
  iintro ⟨⟨#He, Hx, Hs, Hi, HO, Hg, Hr0, Hr4, Hf⟩, Hk⟩
  iapply (x_start m c 0 2) $$ [Hx Hs Hi]
  · ihave Hs := (xSlot_any m c 0 0) $$ Hs
    iframe
  iintro Hf0
  ihave Hg := (own_split m c 0) $$ Hg
  icases Hg with ⟨Hg0, Hg4, Hg⟩
  iapply (g_send m K c 0 fullShare.left 3 0 0 256 rfl rfl rfl rfl rfl [4, 1, 5, 2, 6, 3, 7, 8, 9, 10, 11, 12, 13] (dev3_eq c)) $$ [Hr0 Hg0 HO]
  · iframe He Hr0 Hg0; iexact HO
  iintro ⟨Ho0, HO⟩
  iapply (g_send m K c 4 fullShare.right.left 3 1 0 256 rfl rfl rfl rfl rfl [1, 5, 2, 6, 3, 7, 8, 9, 10, 11, 12, 13] (dev4_eq c)) $$ [Hr4 Hg4 HO]
  · iframe He Hr4 Hg4; iexact HO
  iintro ⟨Ho4, HO⟩
  iapply (x_wait m K c 1 1 _) $$ [HO Hf]
  · iframe He HO Hf
  iintro ⟨⟨Hs, Hx⟩, Hi, HO⟩
  iapply run_ret
  iapply Hk
  iframe

/-- The second block is cast, and sent one way, -/
theorem part4 {Kt : PUnit → sProp (MT nD τ sig Unit (Elt F) ℕ UU ℕ)} (v13 v24 : BitVec 32) :
    iprop((Env m K ∗ xSlot m c 1 1 ∗ gAny c 3 256 256 ∗ xRow m c 3 ∗ xIdle c 1 ∗ sReady c 1 ∗ Ow c [1, 5, 2, 6, 3, 7, 8, 9, 10, 11, 12, 13])
      ∗ ((xFly m c 1 3 ∗ sOut c 1 ∗ gPt m c fullShare.right.left 3 256 256 ∗ gPt m c fullShare.right.right 3 256 256
          ∗ Ow c [5, 2, 6, 3, 7, 8, 9, 10, 11, 12, 13]) -∗ Kt ⟨⟩))
      ⊢ run c (q4 c v13 v24) Kt := by
  unfold q4; rw [k0_part4_eq_skeleton]; unfold k0_part4_skel
  simp only [Prog.lift, Prog.bind_op, Prog.bind_ret, Prog.pure_eq_ret]
  iintro ⟨⟨#He, Hs, Hg, Hx, Hi, Hr, HO⟩, Hk⟩
  iapply (x_load m c 1 1) $$ Hs
  iintro Hs
  iapply (g_put m c 1 (pay_x m c 1)) $$ Hg
  iintro Hg
  ihave Hs := (xSlot_any m c 1 1) $$ Hs
  iapply (x_start m c 1 3) $$ [Hx Hs Hi]
  · iframe
  iintro Hf
  ihave Hg := (own_split m c 256) $$ Hg
  icases Hg with ⟨Hg1, Hg5, Hg⟩
  iapply (g_send m K c 1 fullShare.left 3 0 256 256 rfl rfl rfl rfl rfl [5, 2, 6, 3, 7, 8, 9, 10, 11, 12, 13] (dev5_eq c)) $$ [Hr Hg1 HO]
  · iframe He Hr Hg1 HO
  iintro ⟨Ho, HO⟩
  iapply run_ret
  iapply Hk
  iframe

/-- then the other; the third is cast, and sent one way, -/
theorem part5 {Kt : PUnit → sProp (MT nD τ sig Unit (Elt F) ℕ UU ℕ)} (v13 v24 : BitVec 32) :
    iprop((Env m K ∗ sReady c 5 ∗ gPt m c fullShare.right.left 3 256 256 ∗ Ow c [5, 2, 6, 3, 7, 8, 9, 10, 11, 12, 13] ∗ xFly m c 0 2 ∗ gAny c 3 512 256 ∗ sReady c 2)
      ∗ ((sOut c 5 ∗ xSlot m c 0 2 ∗ xRow m c 2 ∗ xIdle c 0 ∗ sOut c 2 ∗ gPt m c fullShare.right.left 3 512 256 ∗ gPt m c fullShare.right.right 3 512 256
          ∗ Ow c [6, 3, 7, 8, 9, 10, 11, 12, 13]) -∗ Kt ⟨⟩))
      ⊢ run c (q5 c v13 v24) Kt := by
  unfold q5; rw [k0_part5_eq_skeleton]; unfold k0_part5_skel
  simp only [Prog.lift, Prog.bind_op, Prog.bind_ret, Prog.pure_eq_ret]
  iintro ⟨⟨#He, Hr5, Hg5, HO, Hf, Hg, Hr2⟩, Hk⟩
  iapply (g_send m K c 5 fullShare.right.left 3 1 256 256 rfl rfl rfl rfl rfl [2, 6, 3, 7, 8, 9, 10, 11, 12, 13] (dev6_eq c)) $$ [Hr5 Hg5 HO]
  · iframe He Hr5 Hg5 HO
  iintro ⟨Ho5, HO⟩
  iapply (x_wait m K c 0 2 _) $$ [HO Hf]
  · iframe He HO Hf
  iintro ⟨⟨Hs, Hx⟩, Hi, HO⟩
  iapply (x_load m c 0 2) $$ Hs
  iintro Hs
  iapply (g_put m c 2 (pay_x m c 2)) $$ Hg
  iintro Hg
  ihave Hg := (own_split m c 512) $$ Hg
  icases Hg with ⟨Hg2, Hg6, Hg⟩
  iapply (g_send m K c 2 fullShare.left 3 0 512 256 rfl rfl rfl rfl rfl [6, 3, 7, 8, 9, 10, 11, 12, 13] (dev7_eq c)) $$ [Hr2 Hg2 HO]
  · iframe He Hr2 Hg2 HO
  iintro ⟨Ho2, HO⟩
  iapply run_ret
  iapply Hk
  iframe

/-- then the other; the fourth is cast, and sent one way. -/
theorem part6 {Kt : PUnit → sProp (MT nD τ sig Unit (Elt F) ℕ UU ℕ)} (v24 : BitVec 32) :
    iprop((Env m K ∗ sReady c 6 ∗ gPt m c fullShare.right.left 3 512 256 ∗ Ow c [6, 3, 7, 8, 9, 10, 11, 12, 13] ∗ xFly m c 1 3 ∗ gAny c 3 768 256 ∗ sReady c 3)
      ∗ ((sOut c 6 ∗ xSlot m c 1 3 ∗ xRow m c 3 ∗ xIdle c 1 ∗ sOut c 3 ∗ gPt m c fullShare.right.left 3 768 256 ∗ gPt m c fullShare.right.right 3 768 256
          ∗ Ow c [7, 8, 9, 10, 11, 12, 13]) -∗ Kt ⟨⟩))
      ⊢ run c (q6 c v24) Kt := by
  unfold q6; rw [k0_part6_eq_skeleton]; unfold k0_part6_skel
  simp only [Prog.lift, Prog.bind_op, Prog.bind_ret, Prog.pure_eq_ret]
  iintro ⟨⟨#He, Hr6, Hg6, HO, Hf, Hg, Hr3⟩, Hk⟩
  iapply (g_send m K c 6 fullShare.right.left 3 1 512 256 rfl rfl rfl rfl rfl [3, 7, 8, 9, 10, 11, 12, 13] (dev8_eq c)) $$ [Hr6 Hg6 HO]
  · iframe He Hr6 Hg6 HO
  iintro ⟨Ho6, HO⟩
  iapply (x_wait m K c 1 3 _) $$ [HO Hf]
  · iframe He HO Hf
  iintro ⟨⟨Hs, Hx⟩, Hi, HO⟩
  iapply (x_load m c 1 3) $$ Hs
  iintro Hs
  iapply (g_put m c 3 (pay_x m c 3)) $$ Hg
  iintro Hg
  ihave Hg := (own_split m c 768) $$ Hg
  icases Hg with ⟨Hg3, Hg7, Hg⟩
  iapply (g_send m K c 3 fullShare.left 3 0 768 256 rfl rfl rfl rfl rfl [7, 8, 9, 10, 11, 12, 13] (dev9_eq c)) $$ [Hr3 Hg3 HO]
  · iframe He Hr3 Hg3 HO
  iintro ⟨Ho3, HO⟩
  iapply run_ret
  iapply Hk
  iframe

/-- The last copy of the shard goes; the first two blocks of `w` are started and the first is loaded. -/
theorem part7 {Kt : _ → sProp (MT nD τ sig Unit (Elt F) ℕ UU ℕ)} (v13 : BitVec 32) :
    iprop((Env m K ∗ sReady c 7 ∗ gPt m c fullShare.right.left 3 768 256 ∗ Ow c [7, 8, 9, 10, 11, 12, 13] ∗ wRow m c 0 ∗ wAny c 0 ∗ wIdle c 0
        ∗ wRow m c 1 ∗ wAny c 1 ∗ wIdle c 1)
      ∗ ((sOut c 7 ∗ Ow c [8, 9, 10, 11, 12, 13] ∗ wSlot m c 0 0 ∗ wRow m c 0 ∗ wIdle c 0 ∗ wFly m c 1 1) -∗ Kt (k0_pay6 (wRows m c 0))))
      ⊢ run c (q7 c v13) Kt := by
  unfold q7; rw [k0_part7_eq_skeleton]; unfold k0_part7_skel
  simp only [Prog.lift, Prog.bind_op, Prog.bind_ret, Prog.pure_eq_ret]
  iintro ⟨⟨#He, Hr, Hg, HO, Hw0, Hs0, Hi0, Hw1, Hs1, Hi1⟩, Hk⟩
  iapply (g_send m K c 7 fullShare.right.left 3 1 768 256 rfl rfl rfl rfl rfl [8, 9, 10, 11, 12, 13] (dev10_eq c)) $$ [Hr Hg HO]
  · iframe He Hr Hg HO
  iintro ⟨Ho, HO⟩
  iapply (w_start m c 0 0) $$ [Hw0 Hs0 Hi0]
  · iframe
  iintro Hf0
  iapply (w_start m c 1 1) $$ [Hw1 Hs1 Hi1]
  · iframe
  iintro Hf1
  iapply (w_wait m K c 0 0 _) $$ [HO Hf0]
  · iframe He HO Hf0
  iintro ⟨⟨Hs, Hw⟩, Hi, HO⟩
  iapply (w_load m c 0 0) $$ Hs
  iintro Hs
  iapply run_ret
  iapply Hk
  iframe

end Cert.RingGemm

end
-- ==== Proof.PartsB.lean ====
/-
# The parts of the body that cast `w`

Its eight blocks are fetched two ahead, cast, and stored; then the first product is made from the device's own shard.
-/
module

public import proofs.«01_k».proof.Proof.Parts

@[expose] public section

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-- Blocks `0` and `1` are stored, blocks `2` and `3` started. -/
theorem part8 {Kt : PUnit → sProp (MT nD τ sig Unit (Elt F) ℕ UU ℕ)} (l : List (Fin 14)) :
    iprop((Env m K ∗ Ow c l ∗ vAny c 0 ∗ vAny c 1 ∗ wRow m c 2 ∗ wSlot m c 0 0 ∗ wIdle c 0 ∗ wFly m c 1 1 ∗ wRow m c 3)
      ∗ ((Ow c l ∗ vBand m c 0 ∗ vBand m c 1 ∗ wFly m c 0 2 ∗ wFly m c 1 3 ∗ wRow m c 1) -∗ Kt ⟨⟩))
      ⊢ run c (q8 (k0_pay6 (wRows m c 0))) Kt := by
  unfold q8; rw [k0_part8_eq_skeleton]; unfold k0_part8_skel
  simp only [Prog.lift, Prog.bind_op, Prog.bind_ret, Prog.pure_eq_ret]
  iintro ⟨⟨#He, HO, Hv0, Hv1, Hw2, Hs, Hi, Hf, Hw3⟩, Hk⟩
  iapply (v_put m c 0 (pay_w m c 0)) $$ Hv0
  iintro Hv0
  ihave Hs := (wSlot_any m c 0 0) $$ Hs
  iapply (w_start m c 0 2) $$ [Hw2 Hs Hi]
  · iframe
  iintro Hf0
  iapply (w_wait m K c 1 1 l) $$ [HO Hf]
  · iframe He HO Hf
  iintro ⟨⟨Hs, Hw⟩, Hi, HO⟩
  iapply (w_load m c 1 1) $$ Hs
  iintro Hs
  iapply (v_put m c 1 (pay_w m c 1)) $$ Hv1
  iintro Hv1
  ihave Hs := (wSlot_any m c 1 1) $$ Hs
  iapply (w_start m c 1 3) $$ [Hw3 Hs Hi]
  · iframe
  iintro Hf1
  iapply run_ret
  iapply Hk
  iframe

/-- Blocks `2` and `3` are stored, block `4` started. -/
theorem part9 {Kt : PUnit → sProp (MT nD τ sig Unit (Elt F) ℕ UU ℕ)} (l : List (Fin 14)) :
    iprop((Env m K ∗ Ow c l ∗ wFly m c 0 2 ∗ wFly m c 1 3 ∗ vAny c 2 ∗ vAny c 3 ∗ wRow m c 4)
      ∗ ((Ow c l ∗ vBand m c 2 ∗ vBand m c 3 ∗ wFly m c 0 4 ∗ wSlot m c 1 3 ∗ wIdle c 1 ∗ wRow m c 2 ∗ wRow m c 3) -∗ Kt ⟨⟩))
      ⊢ run c (q9 (F := F)) Kt := by
  unfold q9; rw [k0_part9_eq_skeleton]; unfold k0_part9_skel
  simp only [Prog.lift, Prog.bind_op, Prog.bind_ret, Prog.pure_eq_ret]
  iintro ⟨⟨#He, HO, Hf0, Hf1, Hv2, Hv3, Hw4⟩, Hk⟩
  iapply (w_wait m K c 0 2 l) $$ [HO Hf0]
  · iframe He HO Hf0
  iintro ⟨⟨Hs, Hw2⟩, Hi, HO⟩
  iapply (w_load m c 0 2) $$ Hs
  iintro Hs
  iapply (v_put m c 2 (pay_w m c 2)) $$ Hv2
  iintro Hv2
  ihave Hs := (wSlot_any m c 0 2) $$ Hs
  iapply (w_start m c 0 4) $$ [Hw4 Hs Hi]
  · iframe
  iintro Hf0
  iapply (w_wait m K c 1 3 l) $$ [HO Hf1]
  · iframe He HO Hf1
  iintro ⟨⟨Hs, Hw3⟩, Hi, HO⟩
  iapply (w_load m c 1 3) $$ Hs
  iintro Hs
  iapply (v_put m c 3 (pay_w m c 3)) $$ Hv3
  iintro Hv3
  iapply run_ret
  iapply Hk
  iframe

/-- Block `4` is stored, blocks `5` and `6` started, block `5` loaded. -/
theorem part10 {Kt : _ → sProp (MT nD τ sig Unit (Elt F) ℕ UU ℕ)} (l : List (Fin 14)) :
    iprop((Env m K ∗ Ow c l ∗ wSlot m c 1 3 ∗ wIdle c 1 ∗ wFly m c 0 4 ∗ wRow m c 5 ∗ wRow m c 6 ∗ vAny c 4)
      ∗ ((Ow c l ∗ vBand m c 4 ∗ wFly m c 0 6 ∗ wSlot m c 1 5 ∗ wIdle c 1 ∗ wRow m c 4 ∗ wRow m c 5) -∗ Kt (k0_pay12 (wRows m c 5))))
      ⊢ run c (q10 (F := F)) Kt := by
  unfold q10; rw [k0_part10_eq_skeleton]; unfold k0_part10_skel
  simp only [Prog.lift, Prog.bind_op, Prog.bind_ret, Prog.pure_eq_ret]
  iintro ⟨⟨#He, HO, Hs, Hi, Hf0, Hw5, Hw6, Hv4⟩, Hk⟩
  ihave Hs := (wSlot_any m c 1 3) $$ Hs
  iapply (w_start m c 1 5) $$ [Hw5 Hs Hi]
  · iframe
  iintro Hf1
  iapply (w_wait m K c 0 4 l) $$ [HO Hf0]
  · iframe He HO Hf0
  iintro ⟨⟨Hs, Hw4⟩, Hi, HO⟩
  iapply (w_load m c 0 4) $$ Hs
  iintro Hs
  iapply (v_put m c 4 (pay_w m c 4)) $$ Hv4
  iintro Hv4
  ihave Hs := (wSlot_any m c 0 4) $$ Hs
  iapply (w_start m c 0 6) $$ [Hw6 Hs Hi]
  · iframe
  iintro Hf0
  iapply (w_wait m K c 1 5 l) $$ [HO Hf1]
  · iframe He HO Hf1
  iintro ⟨⟨Hs, Hw5⟩, Hi, HO⟩
  iapply (w_load m c 1 5) $$ Hs
  iintro Hs
  iapply run_ret
  iapply Hk
  iframe

/-- Blocks `5` and `6` are stored, block `7` fetched and loaded. -/
theorem part11 {Kt : _ → sProp (MT nD τ sig Unit (Elt F) ℕ UU ℕ)} (l : List (Fin 14)) :
    iprop((Env m K ∗ Ow c l ∗ vAny c 5 ∗ wSlot m c 1 5 ∗ wIdle c 1 ∗ wRow m c 7 ∗ wFly m c 0 6 ∗ vAny c 6)
      ∗ ((Ow c l ∗ vBand m c 5 ∗ vBand m c 6 ∗ wSlot m c 0 6 ∗ wIdle c 0 ∗ wSlot m c 1 7 ∗ wIdle c 1 ∗ wRow m c 6 ∗ wRow m c 7)
        -∗ Kt (k0_pay15 (wRows m c 7))))
      ⊢ run c (q11 (k0_pay12 (wRows m c 5))) Kt := by
  unfold q11; rw [k0_part11_eq_skeleton]; unfold k0_part11_skel
  simp only [Prog.lift, Prog.bind_op, Prog.bind_ret, Prog.pure_eq_ret]
  iintro ⟨⟨#He, HO, Hv5, Hs, Hi, Hw7, Hf0, Hv6⟩, Hk⟩
  iapply (v_put m c 5 (pay_w m c 5)) $$ Hv5
  iintro Hv5
  ihave Hs := (wSlot_any m c 1 5) $$ Hs
  iapply (w_start m c 1 7) $$ [Hw7 Hs Hi]
  · iframe
  iintro Hf1
  iapply (w_wait m K c 0 6 l) $$ [HO Hf0]
  · iframe He HO Hf0
  iintro ⟨⟨Hs0, Hw6⟩, Hi0, HO⟩
  iapply (w_load m c 0 6) $$ Hs0
  iintro Hs0
  iapply (v_put m c 6 (pay_w m c 6)) $$ Hv6
  iintro Hv6
  iapply (w_wait m K c 1 7 l) $$ [HO Hf1]
  · iframe He HO Hf1
  iintro ⟨⟨Hs, Hw7⟩, Hi, HO⟩
  iapply (w_load m c 1 7) $$ Hs
  iintro Hs
  iapply run_ret
  iapply Hk
  iframe

/-- Block `7` is stored; the first half of the device's own rows is multiplied and started on its way out, and the second half is multiplied. -/
theorem part12 {Kt : _ → sProp (MT nD τ sig Unit (Elt F) ℕ UU ℕ)} (v2 : BitVec 32) (q : PosShare TreeShare) :
    iprop((vAny c 7 ∗ (vBand m c 0 ∗ vBand m c 1 ∗ vBand m c 2 ∗ vBand m c 3 ∗ vBand m c 4 ∗ vBand m c 5 ∗ vBand m c 6)
        ∗ gPt m c q 3 0 512 ∗ gPt m c q 3 512 512 ∗ oRest c 0 0 512 ∗ oIdle c 0 ∗ yAny c 0)
      ∗ ((vAll m c ∗ gPt m c q 3 0 512 ∗ gPt m c q 3 512 512 ∗ oFly m c 0)
        -∗ Kt ⟨k0_pay18 (sc m c) (gRows m c 3 512 512) (vMat m c), k0_pay19⟩))
      ⊢ run c (q12 c v2 (sc m c) (k0_pay15 (wRows m c 7))) Kt := by
  unfold q12; rw [k0_part12_eq_skeleton]; unfold k0_part12_skel
  simp only [Prog.lift, Prog.bind_op, Prog.bind_ret, Prog.pure_eq_ret]
  iintro ⟨⟨Hv7, ⟨Hv0, Hv1, Hv2, Hv3, Hv4, Hv5, Hv6⟩, Hg0, Hg1, Ho, Hi, Hy⟩, Hk⟩
  iapply (v_put m c 7 (pay_w m c 7)) $$ Hv7
  iintro Hv7
  ihave Hv := (v_join m c) $$ [Hv0 Hv1 Hv2 Hv3 Hv4 Hv5 Hv6 Hv7]
  · iframe
  iapply (g_load m c q 3 0 512) $$ Hg0
  iintro Hg0
  iapply (v_load m c) $$ Hv
  iintro Hv
  iapply (o_put m c 0 0 512 rfl rfl (P512_at m c 3 0)) $$ Ho
  iintro Ho
  iapply (o_start m c 0 0 512 rfl rfl) $$ [Ho Hy Hi]
  · iframe
  iintro Hf
  iapply (g_load m c q 3 512 512) $$ Hg1
  iintro Hg1
  iapply (v_load m c) $$ Hv
  iintro Hv
  iapply run_ret
  iapply Hk
  iframe

end Cert.RingGemm

end
-- ==== Proof.PartsC.lean ====
/-
# The parts of the body that work on the two neighbours' rows

Arrived pieces are multiplied; a piece on its first hop is passed on, at one half, as it is multiplied at the other.
-/
module

public import proofs.«01_k».proof.Proof.Parts

@[expose] public section

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-- The product of the own second half is stored and started; the first two pieces arrive. -/
theorem part13 {Kt : PUnit → sProp (MT nD τ sig Unit (Elt F) ℕ UU ℕ)} (v24 : BitVec 32) :
    iprop((Env m K ∗ oRest c 1 0 512 ∗ oIdle c 1 ∗ yAny c 1 ∗ rIn c 0 ∗ rIn c 1 ∗ Ow c [8, 9, 10, 11, 12, 13])
      ∗ ((oFly m c 1 ∗ gPt m c fullShare 0 0 256 ∗ semVal (recvCell c 0) 0 ∗ gPt m c fullShare 0 256 256 ∗ semVal (recvCell c 1) 0
          ∗ Ow c [8, 9, 10, 11, 12, 13]) -∗ Kt ⟨⟩))
      ⊢ run c (q13 c v24 (k0_pay18 (sc m c) (gRows m c 3 512 512) (vMat m c)) k0_pay19) Kt := by
  unfold q13; rw [k0_part13_eq_skeleton]; unfold k0_part13_skel
  simp only [Prog.lift, Prog.bind_op, Prog.bind_ret, Prog.pure_eq_ret]
  iintro ⟨⟨#He, Ho, Hi, Hy, Hr0, Hr1, HO⟩, Hk⟩
  iapply (o_put m c 1 1 512 rfl rfl (P512_at m c 3 512)) $$ Ho
  iintro Ho
  iapply (o_start m c 1 1 512 rfl rfl) $$ [Ho Hy Hi]
  · iframe
  iintro Hf
  iapply (g_recv m K c 0 0 0 256 rfl rfl rfl [8, 9, 10, 11, 12, 13] (by decide)) $$ [Hr0 HO]
  · iframe He Hr0 HO
  iintro ⟨Hg0, Hs0, HO⟩
  iapply (g_recv m K c 1 0 256 256 rfl rfl rfl [8, 9, 10, 11, 12, 13] (by decide)) $$ [Hr1 HO]
  · iframe He Hr1 HO
  iintro ⟨Hg1, Hs1, HO⟩
  iapply run_ret
  iapply Hk
  iframe

/-- They are passed on, in three copies. -/
theorem part14 {Kt : PUnit → sProp (MT nD τ sig Unit (Elt F) ℕ UU ℕ)} (v24 : BitVec 32) :
    iprop((Env m K ∗ sReady c 8 ∗ sReady c 9 ∗ sReady c 10 ∗ gPt m c fullShare.left 0 0 256 ∗ gPt m c fullShare.left 0 256 128
        ∗ gPt m c fullShare.left 0 384 128 ∗ Ow c [8, 9, 10, 11, 12, 13])
      ∗ ((sOut c 8 ∗ sOut c 9 ∗ sOut c 10 ∗ Ow c [11, 12, 13]) -∗ Kt ⟨⟩))
      ⊢ run c (q14 c v24) Kt := by
  unfold q14; rw [k0_part14_eq_skeleton]; unfold k0_part14_skel
  simp only [Prog.lift, Prog.bind_op, Prog.bind_ret, Prog.pure_eq_ret]
  iintro ⟨⟨#He, Hr8, Hr9, Hr10, Hg8, Hg9, Hg10, HO⟩, Hk⟩
  iapply (g_send m K c 8 fullShare.left 0 2 0 256 rfl rfl rfl rfl rfl [9, 10, 11, 12, 13] (dev11_eq c)) $$ [Hr8 Hg8 HO]
  · iframe He Hr8 Hg8 HO
  iintro ⟨Ho8, HO⟩
  iapply (g_send m K c 9 fullShare.left 0 2 256 128 rfl rfl rfl rfl rfl [10, 11, 12, 13] (dev12_eq c)) $$ [Hr9 Hg9 HO]
  · iframe He Hr9 Hg9 HO
  iintro ⟨Ho9, HO⟩
  iapply (g_send m K c 10 fullShare.left 0 2 384 128 rfl rfl rfl rfl rfl [11, 12, 13] (dev13_eq c)) $$ [Hr10 Hg10 HO]
  · iframe He Hr10 Hg10 HO
  iintro ⟨Ho10, HO⟩
  iapply run_ret
  iapply Hk
  iframe

/-- They are multiplied. -/
theorem part15 {Kt : PUnit → sProp (MT nD τ sig Unit (Elt F) ℕ UU ℕ)} (v13 : BitVec 32) (q : PosShare TreeShare) (l : List (Fin 14)) :
    iprop((Env m K ∗ gPt m c q 0 0 512 ∗ oFly m c 0 ∗ vAll m c ∗ yAny c 2 ∗ Ow c l)
      ∗ ((gPt m c q 0 0 512 ∗ yPt m c 0 ∗ oFly m c 2 ∗ vAll m c ∗ Ow c l) -∗ Kt ⟨⟩))
      ⊢ run c (q15 c v13 (sc m c)) Kt := by
  unfold q15; rw [k0_part15_eq_skeleton]; unfold k0_part15_skel
  simp only [Prog.lift, Prog.bind_op, Prog.bind_ret, Prog.pure_eq_ret]
  iintro ⟨⟨#He, Hg, Hf, Hv, Hy, HO⟩, Hk⟩
  iapply (g_load m c q 0 0 512) $$ Hg
  iintro Hg
  iapply (o_wait m K c 0 0 512 rfl rfl l) $$ [Hf HO]
  · iframe He Hf HO
  iintro ⟨⟨Hy0, Ho⟩, Hi, HO⟩
  iapply (v_load m c) $$ Hv
  iintro Hv
  iapply (o_put m c 2 0 512 rfl rfl (P512_at m c 0 0)) $$ Ho
  iintro Ho
  iapply (o_start m c 2 0 512 rfl rfl) $$ [Ho Hy Hi]
  · iframe
  iintro Hf
  iapply run_ret
  iapply Hk
  iframe

/-- Two pieces arrive from the other side and are multiplied. -/
theorem part16 {Kt : PUnit → sProp (MT nD τ sig Unit (Elt F) ℕ UU ℕ)} (v13 v24 : BitVec 32) :
    iprop((Env m K ∗ rIn c 4 ∗ rIn c 5 ∗ oFly m c 1 ∗ vAll m c ∗ Ow c [11, 12, 13])
      ∗ ((gPt m c fullShare 1 0 512 ∗ semVal (recvCell c 4) 0 ∗ semVal (recvCell c 5) 0 ∗ yPt m c 1 ∗ oSlot m c 3 ∗ oIdle c 1 ∗ vAll m c
          ∗ Ow c [11, 12, 13]) -∗ Kt ⟨⟩))
      ⊢ run c (q16 c v13 v24 (sc m c)) Kt := by
  unfold q16; rw [k0_part16_eq_skeleton]; unfold k0_part16_skel
  simp only [Prog.lift, Prog.bind_op, Prog.bind_ret, Prog.pure_eq_ret]
  iintro ⟨⟨#He, Hr4, Hr5, Hf, Hv, HO⟩, Hk⟩
  iapply (g_recv m K c 4 1 0 256 rfl rfl rfl [11, 12, 13] (by decide)) $$ [Hr4 HO]
  · iframe He Hr4 HO
  iintro ⟨Hg4, Hs4, HO⟩
  iapply (g_recv m K c 5 1 256 256 rfl rfl rfl [11, 12, 13] (by decide)) $$ [Hr5 HO]
  · iframe He Hr5 HO
  iintro ⟨Hg5, Hs5, HO⟩
  ihave Hg := (gPt_cut m c fullShare 1 0 512 256 256 256 rfl rfl).2 $$ [Hg4 Hg5]
  · iframe
  iapply (g_load m c fullShare 1 0 512) $$ Hg
  iintro Hg
  iapply (o_wait m K c 1 1 512 rfl rfl _) $$ [Hf HO]
  · iframe He Hf HO
  iintro ⟨⟨Hy1, Ho⟩, Hi, HO⟩
  iapply (v_load m c) $$ Hv
  iintro Hv
  iapply (o_put m c 3 1 512 rfl rfl (P512_at m c 1 0)) $$ Ho
  iintro Ho
  iapply run_ret
  iapply Hk
  iframe

/-- The product is started; two more pieces arrive. -/
theorem part17 {Kt : _ → sProp (MT nD τ sig Unit (Elt F) ℕ UU ℕ)} (v13 v24 : BitVec 32) :
    iprop((Env m K ∗ oSlot m c 3 ∗ oIdle c 1 ∗ yAny c 3 ∗ rIn c 2 ∗ rIn c 3 ∗ Ow c [11, 12, 13])
      ∗ ((oFly m c 3 ∗ gPt m c fullShare 0 512 512 ∗ semVal (recvCell c 2) 0 ∗ semVal (recvCell c 3) 0 ∗ Ow c [11, 12, 13])
        -∗ Kt (k0_pay23 (gRows m c 0 512 512))))
      ⊢ run c (q17 c v13 v24) Kt := by
  unfold q17; rw [k0_part17_eq_skeleton]; unfold k0_part17_skel
  simp only [Prog.lift, Prog.bind_op, Prog.bind_ret, Prog.pure_eq_ret]
  iintro ⟨⟨#He, Ho, Hi, Hy, Hr2, Hr3, HO⟩, Hk⟩
  iapply (o_start m c 3 1 512 rfl rfl) $$ [Ho Hy Hi]
  · iframe
  iintro Hf
  iapply (g_recv m K c 2 0 512 256 rfl rfl rfl [11, 12, 13] (by decide)) $$ [Hr2 HO]
  · iframe He Hr2 HO
  iintro ⟨Hg2, Hs2, HO⟩
  iapply (g_recv m K c 3 0 768 256 rfl rfl rfl [11, 12, 13] (by decide)) $$ [Hr3 HO]
  · iframe He Hr3 HO
  iintro ⟨Hg3, Hs3, HO⟩
  ihave Hg := (gPt_cut m c fullShare 0 512 512 256 256 768 rfl rfl).2 $$ [Hg2 Hg3]
  · iframe
  iapply (g_load m c fullShare 0 512 512) $$ Hg
  iintro Hg
  iapply run_ret
  iapply Hk
  iframe

/-- They are multiplied; a piece arrives from the other side. -/
theorem part18 {Kt : BitVec 32 → sProp (MT nD τ sig Unit (Elt F) ℕ UU ℕ)} (v13 : BitVec 32) :
    iprop((Env m K ∗ oFly m c 2 ∗ vAll m c ∗ yAny c 4 ∗ rIn c 6 ∗ Ow c [11, 12, 13])
      ∗ ((yPt m c 2 ∗ oFly m c 4 ∗ vAll m c ∗ gPt m c fullShare 1 512 256 ∗ semVal (recvCell c 6) 0 ∗ Ow c [11, 12, 13]) -∗ Kt 1#32))
      ⊢ run c (q18 c v13 (sc m c) (k0_pay23 (gRows m c 0 512 512))) Kt := by
  unfold q18; rw [k0_part18_eq_skeleton]; unfold k0_part18_skel
  simp only [Prog.lift, Prog.bind_op, Prog.bind_ret, Prog.pure_eq_ret]
  iintro ⟨⟨#He, Hf, Hv, Hy, Hr, HO⟩, Hk⟩
  iapply (o_wait m K c 2 0 512 rfl rfl _) $$ [Hf HO]
  · iframe He Hf HO
  iintro ⟨⟨Hy2, Ho⟩, Hi, HO⟩
  iapply (v_load m c) $$ Hv
  iintro Hv
  iapply (o_put m c 4 0 512 rfl rfl (P512_at m c 0 512)) $$ Ho
  iintro Ho
  iapply (o_start m c 4 0 512 rfl rfl) $$ [Ho Hy Hi]
  · iframe
  iintro Hf
  iapply (g_recv m K c 6 1 512 256 rfl rfl rfl [11, 12, 13] (by decide)) $$ [Hr HO]
  · iframe He Hr HO
  iintro ⟨Hg, Hs, HO⟩
  iapply run_ret
  iapply Hk
  iframe

/-- Another arrives, and two copies of it and its neighbour go on. -/
theorem part19 {Kt : PUnit → sProp (MT nD τ sig Unit (Elt F) ℕ UU ℕ)} (v13 one : BitVec 32) :
    iprop((Env m K ∗ rIn c 7 ∗ gPt m c fullShare 1 512 256 ∗ sReady c 11 ∗ sReady c 12 ∗ Ow c [11, 12, 13])
      ∗ ((semVal (recvCell c 7) 0 ∗ sOut c 11 ∗ sOut c 12 ∗ gPt m c fullShare.left 1 896 128 ∗ gPt m c fullShare.right 1 512 512 ∗ Ow c [13]) -∗ Kt ⟨⟩))
      ⊢ run c (q19 c v13 one) Kt := by
  unfold q19; rw [k0_part19_eq_skeleton]; unfold k0_part19_skel
  simp only [Prog.lift, Prog.bind_op, Prog.bind_ret, Prog.pure_eq_ret]
  iintro ⟨⟨#He, Hr, Hg6, Hr11, Hr12, HO⟩, Hk⟩
  iapply (g_recv m K c 7 1 768 256 rfl rfl rfl [11, 12, 13] (by decide)) $$ [Hr HO]
  · iframe He Hr HO
  iintro ⟨Hg7, Hs, HO⟩
  ihave Hg := (pass_split m c 1 512 768 896 rfl rfl) $$ [Hg6 Hg7]
  · iframe
  icases Hg with ⟨Hg11, Hg12, Hg13, Hg⟩
  iapply (g_send m K c 11 fullShare.left 1 2 512 256 rfl rfl rfl rfl rfl [12, 13] (dev14_eq c)) $$ [Hr11 Hg11 HO]
  · iframe He Hr11 Hg11 HO
  iintro ⟨Ho11, HO⟩
  iapply (g_send m K c 12 fullShare.left 1 2 768 128 rfl rfl rfl rfl rfl [13] (dev15_eq c)) $$ [Hr12 Hg12 HO]
  · iframe He Hr12 Hg12 HO
  iintro ⟨Ho12, HO⟩
  iapply run_ret
  iapply Hk
  iframe

/-- The last copy goes; the two pieces are multiplied. -/
theorem part20 {Kt : PUnit → sProp (MT nD τ sig Unit (Elt F) ℕ UU ℕ)} (v13 v24 : BitVec 32) :
    iprop((Env m K ∗ sReady c 13 ∗ gPt m c fullShare.left 1 896 128 ∗ gPt m c fullShare.right 1 512 512 ∗ oFly m c 3 ∗ vAll m c ∗ Ow c [13])
      ∗ ((sOut c 13 ∗ gPt m c fullShare.right 1 512 512 ∗ yPt m c 3 ∗ oSlot m c 5 ∗ oIdle c 1 ∗ vAll m c ∗ Ow c []) -∗ Kt ⟨⟩))
      ⊢ run c (q20 c v13 v24 (sc m c)) Kt := by
  unfold q20; rw [k0_part20_eq_skeleton]; unfold k0_part20_skel
  simp only [Prog.lift, Prog.bind_op, Prog.bind_ret, Prog.pure_eq_ret]
  iintro ⟨⟨#He, Hr, Hg13, Hg, Hf, Hv, HO⟩, Hk⟩
  iapply (g_send m K c 13 fullShare.left 1 2 896 128 rfl rfl rfl rfl rfl [] (dev16_eq c)) $$ [Hr Hg13 HO]
  · iframe He Hr Hg13 HO
  iintro ⟨Ho13, HO⟩
  iapply (g_load m c fullShare.right 1 512 512) $$ Hg
  iintro Hg
  iapply (o_wait m K c 3 1 512 rfl rfl _) $$ [Hf HO]
  · iframe He Hf HO
  iintro ⟨⟨Hy3, Ho⟩, Hi, HO⟩
  iapply (v_load m c) $$ Hv
  iintro Hv
  iapply (o_put m c 5 1 512 rfl rfl (P512_at m c 1 512)) $$ Ho
  iintro Ho
  iapply run_ret
  iapply Hk
  iframe

end Cert.RingGemm

end
-- ==== Proof.PartsD.lean ====
/-
# The parts of the body that work on the opposite device's rows

They arrive in six pieces, three from each side, and are multiplied as they come; at the end everything in flight is waited for.
-/
module

public import proofs.«01_k».proof.Proof.Parts

@[expose] public section

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-- The last product of a neighbour's rows is started; the first opposite piece arrives. -/
theorem part21 {Kt : _ → sProp (MT nD τ sig Unit (Elt F) ℕ UU ℕ)} (v2 v24 : BitVec 32) :
    iprop((Env m K ∗ oSlot m c 5 ∗ oIdle c 1 ∗ yAny c 5 ∗ rIn c 8 ∗ oFly m c 4 ∗ Ow c [])
      ∗ (∀ v565, (oFly m c 5 ∗ gPt m c fullShare 2 0 256 ∗ semVal (recvCell c 8) 0 ∗ yPt m c 4 ∗ oRest c 0 0 512 ∗ oIdle c 0 ∗ Ow c [])
        -∗ Kt ⟨v565, k0_pay26 (gRows m c 2 0 256)⟩))
      ⊢ run c (q21 c v2 v24) Kt := by
  unfold q21; rw [k0_part21_eq_skeleton]; unfold k0_part21_skel
  simp only [Prog.lift, Prog.bind_op, Prog.bind_ret, Prog.pure_eq_ret]
  iintro ⟨⟨#He, Ho, Hi, Hy, Hr, Hf4, HO⟩, Hk⟩
  iapply (o_start m c 5 1 512 rfl rfl) $$ [Ho Hy Hi]
  · iframe
  iintro Hf
  iapply (g_recv m K c 8 2 0 256 rfl rfl rfl [] (by decide)) $$ [Hr HO]
  · iframe He Hr HO
  iintro ⟨Hg, Hs, HO⟩
  iapply (g_load m c fullShare 2 0 256) $$ Hg
  iintro Hg
  iapply (o_wait m K c 4 0 512 rfl rfl _) $$ [Hf4 HO]
  · iframe He Hf4 HO
  iintro ⟨⟨Hy4, Ho⟩, Hi, HO⟩
  iapply run_ret
  iapply Hk
  iframe

/-- It is multiplied; a piece arrives from the other side. -/
theorem part22 {Kt : _ → sProp (MT nD τ sig Unit (Elt F) ℕ UU ℕ)} (v13 v565 : BitVec 32) :
    iprop((Env m K ∗ vAll m c ∗ oRest c 0 0 512 ∗ oIdle c 0 ∗ yAny c 6 ∗ rIn c 11 ∗ Ow c [])
      ∗ ((vAll m c ∗ oRest c 0 256 256 ∗ oFly m c 6 ∗ gPt m c fullShare 2 512 256 ∗ semVal (recvCell c 11) 0 ∗ Ow c [])
        -∗ Kt (k0_pay28 (gRows m c 2 512 256))))
      ⊢ run c (q22 c v13 (sc m c) v565 (k0_pay26 (gRows m c 2 0 256))) Kt := by
  unfold q22; rw [k0_part22_eq_skeleton]; unfold k0_part22_skel
  simp only [Prog.lift, Prog.bind_op, Prog.bind_ret, Prog.pure_eq_ret]
  iintro ⟨⟨#He, Hv, Ho, Hi, Hy, Hr, HO⟩, Hk⟩
  iapply (v_load m c) $$ Hv
  iintro Hv
  ihave Ho := (oRest_cut c 0 0 512 256 256 256 rfl rfl) $$ Ho
  icases Ho with ⟨Ho, Hrest⟩
  iapply (o_put m c 6 0 256 rfl rfl (P256_at m c 2 0)) $$ Ho
  iintro Ho
  iapply (o_start m c 6 0 256 rfl rfl) $$ [Ho Hy Hi]
  · iframe
  iintro Hf
  iapply (g_recv m K c 11 2 512 256 rfl rfl rfl [] (by decide)) $$ [Hr HO]
  · iframe He Hr HO
  iintro ⟨Hg, Hs, HO⟩
  iapply (g_load m c fullShare 2 512 256) $$ Hg
  iintro Hg
  iapply run_ret
  iapply Hk
  iframe

/-- It is multiplied; the next piece arrives. -/
theorem part23 {Kt : _ → sProp (MT nD τ sig Unit (Elt F) ℕ UU ℕ)} (v24 v565 : BitVec 32) :
    iprop((Env m K ∗ oFly m c 5 ∗ vAll m c ∗ yAny c 7 ∗ rIn c 9 ∗ Ow c [])
      ∗ ((yPt m c 5 ∗ vAll m c ∗ oRest c 1 256 256 ∗ oFly m c 7 ∗ gPt m c fullShare 2 256 128 ∗ semVal (recvCell c 9) 0 ∗ Ow c [])
        -∗ Kt (k0_pay30 (gRows m c 2 256 128))))
      ⊢ run c (q23 c v24 (sc m c) v565 (k0_pay28 (gRows m c 2 512 256))) Kt := by
  unfold q23; rw [k0_part23_eq_skeleton]; unfold k0_part23_skel
  simp only [Prog.lift, Prog.bind_op, Prog.bind_ret, Prog.pure_eq_ret]
  iintro ⟨⟨#He, Hf, Hv, Hy, Hr, HO⟩, Hk⟩
  iapply (o_wait m K c 5 1 512 rfl rfl _) $$ [Hf HO]
  · iframe He Hf HO
  iintro ⟨⟨Hy5, Ho⟩, Hi, HO⟩
  iapply (v_load m c) $$ Hv
  iintro Hv
  ihave Ho := (oRest_cut c 1 0 512 256 256 256 rfl rfl) $$ Ho
  icases Ho with ⟨Ho, Hrest⟩
  iapply (o_put m c 7 1 256 rfl rfl (P256_at m c 2 512)) $$ Ho
  iintro Ho
  iapply (o_start m c 7 1 256 rfl rfl) $$ [Ho Hy Hi]
  · iframe
  iintro Hf
  iapply (g_recv m K c 9 2 256 128 rfl rfl rfl [] (by decide)) $$ [Hr HO]
  · iframe He Hr HO
  iintro ⟨Hg, Hs, HO⟩
  iapply (g_load m c fullShare 2 256 128) $$ Hg
  iintro Hg
  iapply run_ret
  iapply Hk
  iframe

/-- It is multiplied; the next piece arrives. -/
theorem part24 {Kt : PUnit → sProp (MT nD τ sig Unit (Elt F) ℕ UU ℕ)} (v13 : BitVec 32) :
    iprop((Env m K ∗ oFly m c 6 ∗ vAll m c ∗ yAny c 8 ∗ rIn c 12 ∗ Ow c [])
      ∗ ((yPt m c 6 ∗ vAll m c ∗ oRest c 0 128 128 ∗ oFly m c 8 ∗ gPt m c fullShare 2 768 128 ∗ semVal (recvCell c 12) 0 ∗ Ow c []) -∗ Kt ⟨⟩))
      ⊢ run c (q24 c v13 (sc m c) (k0_pay30 (gRows m c 2 256 128))) Kt := by
  unfold q24; rw [k0_part24_eq_skeleton]; unfold k0_part24_skel
  simp only [Prog.lift, Prog.bind_op, Prog.bind_ret, Prog.pure_eq_ret]
  iintro ⟨⟨#He, Hf, Hv, Hy, Hr, HO⟩, Hk⟩
  iapply (o_wait m K c 6 0 256 rfl rfl _) $$ [Hf HO]
  · iframe He Hf HO
  iintro ⟨⟨Hy6, Ho⟩, Hi, HO⟩
  iapply (v_load m c) $$ Hv
  iintro Hv
  ihave Ho := (oRest_cut c 0 0 256 128 128 128 rfl rfl) $$ Ho
  icases Ho with ⟨Ho, Hrest⟩
  iapply (o_put m c 8 0 128 rfl rfl (P128_at m c 2 256)) $$ Ho
  iintro Ho
  iapply (o_start m c 8 0 128 rfl rfl) $$ [Ho Hy Hi]
  · iframe
  iintro Hf
  iapply (g_recv m K c 12 2 768 128 rfl rfl rfl [] (by decide)) $$ [Hr HO]
  · iframe He Hr HO
  iintro ⟨Hg, Hs, HO⟩
  iapply run_ret
  iapply Hk
  iframe

/-- It is multiplied. -/
theorem part25 {Kt : PUnit → sProp (MT nD τ sig Unit (Elt F) ℕ UU ℕ)} (v24 v565 : BitVec 32) (l : List (Fin 14)) :
    iprop((Env m K ∗ gPt m c fullShare 2 768 128 ∗ oFly m c 7 ∗ vAll m c ∗ yAny c 9 ∗ Ow c l)
      ∗ ((gPt m c fullShare 2 768 128 ∗ yPt m c 7 ∗ vAll m c ∗ oRest c 1 128 128 ∗ oFly m c 9 ∗ Ow c l) -∗ Kt ⟨⟩))
      ⊢ run c (q25 c v24 (sc m c) v565) Kt := by
  unfold q25; rw [k0_part25_eq_skeleton]; unfold k0_part25_skel
  simp only [Prog.lift, Prog.bind_op, Prog.bind_ret, Prog.pure_eq_ret]
  iintro ⟨⟨#He, Hg, Hf, Hv, Hy, HO⟩, Hk⟩
  iapply (g_load m c fullShare 2 768 128) $$ Hg
  iintro Hg
  iapply (o_wait m K c 7 1 256 rfl rfl _) $$ [Hf HO]
  · iframe He Hf HO
  iintro ⟨⟨Hy7, Ho⟩, Hi, HO⟩
  iapply (v_load m c) $$ Hv
  iintro Hv
  ihave Ho := (oRest_cut c 1 0 256 128 128 128 rfl rfl) $$ Ho
  icases Ho with ⟨Ho, Hrest⟩
  iapply (o_put m c 9 1 128 rfl rfl (P128_at m c 2 768)) $$ Ho
  iintro Ho
  iapply (o_start m c 9 1 128 rfl rfl) $$ [Ho Hy Hi]
  · iframe
  iintro Hf
  iapply run_ret
  iapply Hk
  iframe

/-- The next piece arrives and is multiplied. -/
theorem part26 {Kt : PUnit → sProp (MT nD τ sig Unit (Elt F) ℕ UU ℕ)} (v13 v565 : BitVec 32) :
    iprop((Env m K ∗ rIn c 10 ∗ oFly m c 8 ∗ vAll m c ∗ yAny c 10 ∗ Ow c [])
      ∗ ((gPt m c fullShare 2 384 128 ∗ semVal (recvCell c 10) 0 ∗ yPt m c 8 ∗ vAll m c ∗ oFly m c 10 ∗ Ow c []) -∗ Kt ⟨⟩))
      ⊢ run c (q26 c v13 (sc m c) v565) Kt := by
  unfold q26; rw [k0_part26_eq_skeleton]; unfold k0_part26_skel
  simp only [Prog.lift, Prog.bind_op, Prog.bind_ret, Prog.pure_eq_ret]
  iintro ⟨⟨#He, Hr, Hf, Hv, Hy, HO⟩, Hk⟩
  iapply (g_recv m K c 10 2 384 128 rfl rfl rfl [] (by decide)) $$ [Hr HO]
  · iframe He Hr HO
  iintro ⟨Hg, Hs, HO⟩
  iapply (g_load m c fullShare 2 384 128) $$ Hg
  iintro Hg
  iapply (o_wait m K c 8 0 128 rfl rfl _) $$ [Hf HO]
  · iframe He Hf HO
  iintro ⟨⟨Hy8, Ho⟩, Hi, HO⟩
  iapply (v_load m c) $$ Hv
  iintro Hv
  iapply (o_put m c 10 0 128 rfl rfl (P128_at m c 2 384)) $$ Ho
  iintro Ho
  iapply (o_start m c 10 0 128 rfl rfl) $$ [Ho Hy Hi]
  · iframe
  iintro Hf
  iapply run_ret
  iapply Hk
  iframe

/-- The last piece arrives and is multiplied. -/
theorem part27 {Kt : PUnit → sProp (MT nD τ sig Unit (Elt F) ℕ UU ℕ)} (v565 : BitVec 32) :
    iprop((Env m K ∗ rIn c 13 ∗ oFly m c 9 ∗ vAll m c ∗ Ow c [])
      ∗ ((gPt m c fullShare 2 896 128 ∗ semVal (recvCell c 13) 0 ∗ yPt m c 9 ∗ vAll m c ∗ oSlot m c 11 ∗ oIdle c 1 ∗ Ow c []) -∗ Kt ⟨⟩))
      ⊢ run c (q27 c (sc m c) v565) Kt := by
  unfold q27; rw [k0_part27_eq_skeleton]; unfold k0_part27_skel
  simp only [Prog.lift, Prog.bind_op, Prog.bind_ret, Prog.pure_eq_ret]
  iintro ⟨⟨#He, Hr, Hf, Hv, HO⟩, Hk⟩
  iapply (g_recv m K c 13 2 896 128 rfl rfl rfl [] (by decide)) $$ [Hr HO]
  · iframe He Hr HO
  iintro ⟨Hg, Hs, HO⟩
  iapply (g_load m c fullShare 2 896 128) $$ Hg
  iintro Hg
  iapply (o_wait m K c 9 1 128 rfl rfl _) $$ [Hf HO]
  · iframe He Hf HO
  iintro ⟨⟨Hy9, Ho⟩, Hi, HO⟩
  iapply (v_load m c) $$ Hv
  iintro Hv
  iapply (o_put m c 11 1 128 rfl rfl (P128_at m c 2 896)) $$ Ho
  iintro Ho
  iapply run_ret
  iapply Hk
  iframe

/-- The last product goes out, and the last two are waited for; then the first two copies. -/
theorem part28 {Kt : PUnit → sProp (MT nD τ sig Unit (Elt F) ℕ UU ℕ)} :
    iprop((Env m K ∗ oSlot m c 11 ∗ oIdle c 1 ∗ yAny c 11 ∗ oFly m c 10 ∗ sOut c 0 ∗ sOut c 1 ∗ Ow c [])
      ∗ ((yPt m c 10 ∗ oRest c 0 0 128 ∗ oIdle c 0 ∗ yPt m c 11 ∗ oRest c 1 0 128 ∗ oIdle c 1
          ∗ (gPt m c fullShare.left 3 0 256 ∗ semVal (sendCell c 0) 0) ∗ (gPt m c fullShare.left 3 256 256 ∗ semVal (sendCell c 1) 0) ∗ Ow c []) -∗ Kt ⟨⟩))
      ⊢ run c (q28 c) Kt := by
  unfold q28; rw [k0_part28_eq_skeleton]; unfold k0_part28_skel
  simp only [Prog.lift, Prog.bind_op, Prog.bind_ret, Prog.pure_eq_ret]
  iintro ⟨⟨#He, Ho, Hi, Hy, Hf10, Hs0, Hs1, HO⟩, Hk⟩
  iapply (o_start m c 11 1 128 rfl rfl) $$ [Ho Hy Hi]
  · iframe
  iintro Hf11
  iapply (o_wait m K c 10 0 128 rfl rfl _) $$ [Hf10 HO]
  · iframe He Hf10 HO
  iintro ⟨⟨Hy10, Ho0⟩, Hi0, HO⟩
  iapply (o_wait m K c 11 1 128 rfl rfl _) $$ [Hf11 HO]
  · iframe He Hf11 HO
  iintro ⟨⟨Hy11, Ho1⟩, Hi1, HO⟩
  iapply (g_sent m K c 0 fullShare.left 3 0 256 rfl rfl rfl rfl) $$ [Hs0 HO]
  · iframe He Hs0 HO
  iintro ⟨Hg0, Hd0, HO⟩
  iapply (g_sent m K c 1 fullShare.left 3 256 256 rfl rfl rfl rfl) $$ [Hs1 HO]
  · iframe He Hs1 HO
  iintro ⟨Hg1, Hd1, HO⟩
  iapply run_ret
  iapply Hk
  iframe

/-- Four more copies. -/
theorem part29 {Kt : PUnit → sProp (MT nD τ sig Unit (Elt F) ℕ UU ℕ)} :
    iprop((Env m K ∗ sOut c 2 ∗ sOut c 3 ∗ sOut c 4 ∗ sOut c 5 ∗ Ow c [])
      ∗ (((gPt m c fullShare.left 3 512 256 ∗ semVal (sendCell c 2) 0) ∗ (gPt m c fullShare.left 3 768 256 ∗ semVal (sendCell c 3) 0)
          ∗ (gPt m c fullShare.right.left 3 0 256 ∗ semVal (sendCell c 4) 0) ∗ (gPt m c fullShare.right.left 3 256 256 ∗ semVal (sendCell c 5) 0) ∗ Ow c [])
        -∗ Kt ⟨⟩))
      ⊢ run c (q29 (F := F)) Kt := by
  unfold q29; rw [k0_part29_eq_skeleton]; unfold k0_part29_skel
  simp only [Prog.lift, Prog.bind_op, Prog.bind_ret, Prog.pure_eq_ret]
  iintro ⟨⟨#He, Hs2, Hs3, Hs4, Hs5, HO⟩, Hk⟩
  iapply (g_sent m K c 2 fullShare.left 3 512 256 rfl rfl rfl rfl) $$ [Hs2 HO]
  · iframe He Hs2 HO
  iintro ⟨Hg2, Hd2, HO⟩
  iapply (g_sent m K c 3 fullShare.left 3 768 256 rfl rfl rfl rfl) $$ [Hs3 HO]
  · iframe He Hs3 HO
  iintro ⟨Hg3, Hd3, HO⟩
  iapply (g_sent m K c 4 fullShare.right.left 3 0 256 rfl rfl rfl rfl) $$ [Hs4 HO]
  · iframe He Hs4 HO
  iintro ⟨Hg4, Hd4, HO⟩
  iapply (g_sent m K c 5 fullShare.right.left 3 256 256 rfl rfl rfl rfl) $$ [Hs5 HO]
  · iframe He Hs5 HO
  iintro ⟨Hg5, Hd5, HO⟩
  iapply run_ret
  iapply Hk
  iframe

/-- Three more. -/
theorem part30 {Kt : PUnit → sProp (MT nD τ sig Unit (Elt F) ℕ UU ℕ)} :
    iprop((Env m K ∗ sOut c 6 ∗ sOut c 7 ∗ sOut c 8 ∗ Ow c [])
      ∗ (((gPt m c fullShare.right.left 3 512 256 ∗ semVal (sendCell c 6) 0) ∗ (gPt m c fullShare.right.left 3 768 256 ∗ semVal (sendCell c 7) 0)
          ∗ (gPt m c fullShare.left 0 0 256 ∗ semVal (sendCell c 8) 0) ∗ Ow c []) -∗ Kt ⟨⟩))
      ⊢ run c (q30 (F := F)) Kt := by
  unfold q30; rw [k0_part30_eq_skeleton]; unfold k0_part30_skel
  simp only [Prog.lift, Prog.bind_op, Prog.bind_ret, Prog.pure_eq_ret]
  iintro ⟨⟨#He, Hs6, Hs7, Hs8, HO⟩, Hk⟩
  iapply (g_sent m K c 6 fullShare.right.left 3 512 256 rfl rfl rfl rfl) $$ [Hs6 HO]
  · iframe He Hs6 HO
  iintro ⟨Hg6, Hd6, HO⟩
  iapply (g_sent m K c 7 fullShare.right.left 3 768 256 rfl rfl rfl rfl) $$ [Hs7 HO]
  · iframe He Hs7 HO
  iintro ⟨Hg7, Hd7, HO⟩
  iapply (g_sent m K c 8 fullShare.left 0 0 256 rfl rfl rfl rfl) $$ [Hs8 HO]
  · iframe He Hs8 HO
  iintro ⟨Hg8, Hd8, HO⟩
  iapply run_ret
  iapply Hk
  iframe

/-- All but the last. -/
theorem part31 {Kt : PUnit → sProp (MT nD τ sig Unit (Elt F) ℕ UU ℕ)} :
    iprop((Env m K ∗ sOut c 9 ∗ sOut c 10 ∗ sOut c 11 ∗ sOut c 12 ∗ Ow c [])
      ∗ (((gPt m c fullShare.left 0 256 128 ∗ semVal (sendCell c 9) 0) ∗ (gPt m c fullShare.left 0 384 128 ∗ semVal (sendCell c 10) 0)
          ∗ (gPt m c fullShare.left 1 512 256 ∗ semVal (sendCell c 11) 0) ∗ (gPt m c fullShare.left 1 768 128 ∗ semVal (sendCell c 12) 0) ∗ Ow c [])
        -∗ Kt ⟨⟩))
      ⊢ run c (q31 (F := F)) Kt := by
  unfold q31; rw [k0_part31_eq_skeleton]; unfold k0_part31_skel
  simp only [Prog.lift, Prog.bind_op, Prog.bind_ret, Prog.pure_eq_ret]
  iintro ⟨⟨#He, Hs9, Hs10, Hs11, Hs12, HO⟩, Hk⟩
  iapply (g_sent m K c 9 fullShare.left 0 256 128 rfl rfl rfl rfl) $$ [Hs9 HO]
  · iframe He Hs9 HO
  iintro ⟨Hg9, Hd9, HO⟩
  iapply (g_sent m K c 10 fullShare.left 0 384 128 rfl rfl rfl rfl) $$ [Hs10 HO]
  · iframe He Hs10 HO
  iintro ⟨Hg10, Hd10, HO⟩
  iapply (g_sent m K c 11 fullShare.left 1 512 256 rfl rfl rfl rfl) $$ [Hs11 HO]
  · iframe He Hs11 HO
  iintro ⟨Hg11, Hd11, HO⟩
  iapply (g_sent m K c 12 fullShare.left 1 768 128 rfl rfl rfl rfl) $$ [Hs12 HO]
  · iframe He Hs12 HO
  iintro ⟨Hg12, Hd12, HO⟩
  iapply run_ret
  iapply Hk
  iframe

end Cert.RingGemm

end
-- ==== Proof.Tiles.lean ====
/-
# Cutting the buffers into the pieces the body moves, and putting them together again

A buffer whose elements a finite family of boxes partitions (`Parted`) is held as those boxes, at one valuation or at
one each; joined, some valuation agrees with each on its box.
-/
module

public import proofs.«01_k».proof.Proof.Parts

@[expose] public section

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-! ## Partitions into boxes -/

/-- The sets share no element and together are everything. -/
def Parted {ι : Type} {s : Shape} (S : ι → Finset s.Idx) : Prop := (∀ i j, i ≠ j → Disjoint (S i) (S j)) ∧ ∀ x, ∃ i, x ∈ S i

/-- Boxes apart on some axis share no element. -/
theorem box_apart {s : Shape} {off size off' size' : Fin s.rank → ℕ} (a : Fin s.rank) (h : off a + size a ≤ off' a ∨ off' a + size' a ≤ off a) :
    Disjoint (box (s := s) off size) (box off' size') := by
  rw [Finset.disjoint_left]
  intro x hx hy
  have h1 := mem_box.mp hx a
  have h2 := mem_box.mp hy a
  omega

section Join
variable {ι : Type} [Fintype ι] [DecidableEq ι] {ℓ : Loc nD τ sig} {S : ι → Finset ℓ.ty.shape.Idx}

theorem parted_univ (h : Parted S) : Finset.univ.biUnion S = Finset.univ := by
  ext x; simp only [Finset.mem_biUnion, Finset.mem_univ, true_and, iff_true]; exact h.2 x

theorem pieces_eq (h : Parted S) (f : Buf (Elt F) ℓ) : (ℓ ↦{fullShare} f : sProp 𝕄) = bigSep Finset.univ fun i => ℓ ↦[S i]{fullShare} f := by
  rw [← pointsTo_biUnion Finset.univ S fun i _ j _ hij => h.1 i j hij, parted_univ h]

theorem pieces_join (h : Parted S) (i₀ : ι) (fs : ι → Buf (Elt F) ℓ) :
    (bigSep Finset.univ fun i => ℓ ↦[S i]{fullShare} fs i : sProp 𝕄) ⊢ iprop(∃ f, ⌜∀ i, ∀ x ∈ S i, f x = fs i x⌝ ∗ (ℓ ↦{fullShare} f)) := by
  have hj := pointsTo_biUnion_join (Ix := Unit) (Name := ℕ) (U := UU) (Lvl := ℕ) (Val := Elt F) (q := fullShare) Finset.univ S fs (fs i₀) fun i _ j _ hij => h.1 i j hij
  rw [parted_univ h] at hj
  refine hj.trans ?_
  iintro ⟨%f, %hf, H⟩
  iexists f
  isplitr; · ipureintro; exact fun i x hx => hf i (Finset.mem_univ _) x hx
  iexact H

theorem some_any (I : Finset ℓ.ty.shape.Idx) (f : Buf (Elt F) ℓ) : (ℓ ↦[I]{fullShare} f : sProp 𝕄) ⊢ iprop(∃ f, ℓ ↦[I]{fullShare} f) := by
  iintro H; iexists f; iexact H

theorem pieces_any (h : Parted S) : iprop(∃ f, ℓ ↦{fullShare} f) ⊢ (bigSep Finset.univ fun i => iprop(∃ f, ℓ ↦[S i]{fullShare} f) : sProp 𝕄) := by
  iintro ⟨%f, H⟩
  iapply ((Entails.of_eq (pieces_eq h f)).trans (bigSep_mono fun i _ => some_any (S i) f)) $$ H

theorem any_join (f₀ : Buf (Elt F) ℓ) (h : Parted S) (i₀ : ι) :
    (bigSep Finset.univ fun i => iprop(∃ f, ℓ ↦[S i]{fullShare} f) : sProp 𝕄) ⊢ iprop(∃ f, ℓ ↦{fullShare} f) := by
  haveI : Nonempty (Buf (Elt F) ℓ) := ⟨f₀⟩
  iintro H
  ihave H := (BI.bigSep_exists_pi Finset.univ fun (i : ι) (f : Buf (Elt F) ℓ) => (ℓ ↦[S i]{fullShare} f : sProp 𝕄)) $$ H
  icases H with ⟨%fs, H⟩
  ihave H := (pieces_join h i₀ fs) $$ H
  icases H with ⟨%f, -, H⟩
  iexists f; iexact H

end Join

/-! ## The partitions -/

theorem x_parted : Parted fun q : Fin 4 => box (s := S1024x4096) ![256 * q.val, 0] ![256, 4096] := by
  refine ⟨fun i j h => box_apart 0 ?_, fun x => ?_⟩
  · have : i.val ≠ j.val := fun e => h (Fin.ext e)
    show 256 * i.val + 256 ≤ 256 * j.val ∨ 256 * j.val + 256 ≤ 256 * i.val; omega
  · have h0 : (x 0).val < 1024 := (x 0).isLt
    have h1 : (x 1).val < 4096 := (x 1).isLt
    refine ⟨⟨(x 0).val / 256, by omega⟩, mem_box.mpr fun a => ?_⟩
    match a with
    | ⟨0, _⟩ => show 256 * ((x 0).val / 256) ≤ (x 0).val ∧ (x 0).val < 256 * ((x 0).val / 256) + 256; omega
    | ⟨1, _⟩ => show 0 ≤ (x 1).val ∧ (x 1).val < 0 + 4096; omega

theorem w_parted : Parted fun q : Fin 8 => box (s := S4096x2048) ![512 * q.val, 0] ![512, 2048] := by
  refine ⟨fun i j h => box_apart 0 ?_, fun x => ?_⟩
  · have : i.val ≠ j.val := fun e => h (Fin.ext e)
    show 512 * i.val + 512 ≤ 512 * j.val ∨ 512 * j.val + 512 ≤ 512 * i.val; omega
  · have h0 : (x 0).val < 4096 := (x 0).isLt
    have h1 : (x 1).val < 2048 := (x 1).isLt
    refine ⟨⟨(x 0).val / 512, by omega⟩, mem_box.mpr fun a => ?_⟩
    match a with
    | ⟨0, _⟩ => show 512 * ((x 0).val / 512) ≤ (x 0).val ∧ (x 0).val < 512 * ((x 0).val / 512) + 512; omega
    | ⟨1, _⟩ => show 0 ≤ (x 1).val ∧ (x 1).val < 0 + 2048; omega

/-- The slots of a buffer of `k` slots. -/
theorem slots_parted {k n l : ℕ} : Parted fun s : Fin k => box (s := ⟨3, ![k, n, l]⟩) ![s.val, 0, 0] ![1, n, l] := by
  refine ⟨fun i j h => box_apart 0 ?_, fun x => ?_⟩
  · have : i.val ≠ j.val := fun e => h (Fin.ext e)
    show i.val + 1 ≤ j.val ∨ j.val + 1 ≤ i.val; omega
  · have h1 : (x 1).val < n := (x 1).isLt
    have h2 : (x 2).val < l := (x 2).isLt
    refine ⟨x 0, mem_box.mpr fun a => ?_⟩
    match a with
    | ⟨0, _⟩ => show (x 0).val ≤ (x 0).val ∧ (x 0).val < (x 0).val + 1; omega
    | ⟨1, _⟩ => show 0 ≤ (x 1).val ∧ (x 1).val < 0 + n; omega
    | ⟨2, _⟩ => show 0 ≤ (x 2).val ∧ (x 2).val < 0 + l; omega

/-- Rows `lo` to `lo + n` of slot `s`, as a table entry; the fourteen target pieces and the four own ones. -/
def gTab : Fin 14 ⊕ Fin 4 → ℕ × ℕ × ℕ
  | .inl i => (cdst i, clo i, cn i)
  | .inr q => (3, 256 * q.val, 256)

theorem gTab_apart : ∀ i j, i ≠ j → (gTab i).1 ≠ (gTab j).1 ∨ (gTab i).2.1 + (gTab i).2.2 ≤ (gTab j).2.1 ∨ (gTab j).2.1 + (gTab j).2.2 ≤ (gTab i).2.1 := by
  decide
theorem gTab_cover (s r : ℕ) (hs : s < 4) (hr : r < 1024) : ∃ i, (gTab i).1 = s ∧ (gTab i).2.1 ≤ r ∧ r < (gTab i).2.1 + (gTab i).2.2 := by
  have e : ∀ b : Fin 8, ∀ s : Fin 4, ∃ i, (gTab i).1 = s.val ∧ (gTab i).2.1 ≤ 128 * b.val ∧ 128 * b.val + 128 ≤ (gTab i).2.1 + (gTab i).2.2 := by decide
  obtain ⟨i, h1, h2, h3⟩ := e ⟨r / 128, by omega⟩ ⟨s, hs⟩
  exact ⟨i, h1, by simp only at h2; omega, by simp only at h3; omega⟩

theorem g_parted : Parted fun i => box (s := S4x1024x4096) ![(gTab i).1, (gTab i).2.1, 0] ![1, (gTab i).2.2, 4096] := by
  refine ⟨fun i j h => ?_, fun x => ?_⟩
  · rcases gTab_apart i j h with e | e
    · exact box_apart 0 (by show (gTab i).1 + 1 ≤ (gTab j).1 ∨ (gTab j).1 + 1 ≤ (gTab i).1; omega)
    · exact box_apart 1 e
  · have h2 : (x 2).val < 4096 := (x 2).isLt
    obtain ⟨i, h, h'⟩ := gTab_cover (x 0).val (x 1).val (x 0).isLt (x 1).isLt
    refine ⟨i, mem_box.mpr fun a => ?_⟩
    match a with
    | ⟨0, _⟩ => show (gTab i).1 ≤ (x 0).val ∧ (x 0).val < (gTab i).1 + 1; omega
    | ⟨1, _⟩ => exact h'
    | ⟨2, _⟩ => show 0 ≤ (x 2).val ∧ (x 2).val < 0 + 4096; omega

/-- Which slot's rows output piece `j` is made from, and from which row. -/
def oslot : Fin 12 → ℕ := ![3, 3, 0, 1, 0, 1, 2, 2, 2, 2, 2, 2]
def olo : Fin 12 → ℕ := ![0, 512, 0, 0, 512, 512, 0, 512, 256, 768, 384, 896]

/-- Piece `j` goes to the rows of the device whose rows it is made from. -/
theorem ooff_eq (j : Fin 12) : ooff c j = ![1024 * (own c (oslot j)).val + olo j, 0] := by revert c j; decide +kernel

theorem piece_apart : ∀ i j : Fin 12, i ≠ j → oslot i ≠ oslot j ∨ olo i + on i ≤ olo j ∨ olo j + on j ≤ olo i := by decide
theorem piece_fits : ∀ j : Fin 12, oslot j < 4 ∧ olo j + on j ≤ 1024 := by decide
theorem own_inj : ∀ c : Dev nD, ∀ s t : Fin 4, s ≠ t → (own c s.val).val ≠ (own c t.val).val := by decide
theorem piece_cover (d r : ℕ) (hd : d < 4) (hr : r < 1024) : ∃ j : Fin 12, (own c (oslot j)).val = d ∧ olo j ≤ r ∧ r < olo j + on j := by
  have e : ∀ c : Dev nD, ∀ b : Fin 8, ∀ d : Fin 4, ∃ j : Fin 12, (own c (oslot j)).val = d.val ∧ olo j ≤ 128 * b.val ∧ 128 * b.val + 128 ≤ olo j + on j := by decide
  obtain ⟨j, h1, h2, h3⟩ := e c ⟨r / 128, by omega⟩ ⟨d, hd⟩
  exact ⟨j, h1, by simp only at h2; omega, by simp only at h3; omega⟩

theorem y_parted : Parted fun j : Fin 12 => box (s := S4096x2048) (ooff c j) ![on j, 2048] := by
  refine ⟨fun i j h => box_apart 0 ?_, fun x => ?_⟩
  · rw [ooff_eq, ooff_eq]
    show 1024 * (own c (oslot i)).val + olo i + on i ≤ 1024 * (own c (oslot j)).val + olo j ∨ 1024 * (own c (oslot j)).val + olo j + on j ≤ 1024 * (own c (oslot i)).val + olo i
    have hi := piece_fits i
    have hj := piece_fits j
    by_cases e : oslot i = oslot j
    · rw [e]
      rcases piece_apart i j h with h | h
      · exact absurd e h
      · omega
    · have := own_inj c ⟨oslot i, hi.1⟩ ⟨oslot j, hj.1⟩ fun e' => e (congrArg Fin.val e')
      simp only at this
      omega
  · have h0 : (x 0).val < 4096 := (x 0).isLt
    have h1 : (x 1).val < 2048 := (x 1).isLt
    obtain ⟨j, e, hl, hu⟩ := piece_cover c ((x 0).val / 1024) ((x 0).val % 1024) (by omega) (by omega)
    refine ⟨j, mem_box.mpr fun a => ?_⟩
    rw [ooff_eq]
    match a with
    | ⟨0, _⟩ =>
      show 1024 * (own c (oslot j)).val + olo j ≤ (x 0).val ∧ (x 0).val < 1024 * (own c (oslot j)).val + olo j + on j
      omega
    | ⟨1, _⟩ => show 0 ≤ (x 1).val ∧ (x 1).val < 0 + 2048; omega

/-! ## Each buffer -/

theorem x_pieces : ((c : Thread nD τ).loc main_arg0 ↦{fullShare} m ((c : Thread nD τ).loc main_arg0) : sProp 𝕄)
    = iprop(xRow m c 0 ∗ xRow m c 1 ∗ xRow m c 2 ∗ xRow m c 3) :=
  (pieces_eq (ℓ := (c : Thread nD τ).loc main_arg0) x_parted _).trans (bigSep_univ_eq_bigSepL [0, 1, 2, 3] (by decide) (by decide) _)

theorem w_pieces : ((c : Thread nD τ).loc main_arg1 ↦{fullShare} m ((c : Thread nD τ).loc main_arg1) : sProp 𝕄)
    = iprop(wRow m c 0 ∗ wRow m c 1 ∗ wRow m c 2 ∗ wRow m c 3 ∗ wRow m c 4 ∗ wRow m c 5 ∗ wRow m c 6 ∗ wRow m c 7) :=
  (pieces_eq (ℓ := (c : Thread nD τ).loc main_arg1) w_parted _).trans (bigSep_univ_eq_bigSepL [0, 1, 2, 3, 4, 5, 6, 7] (by decide) (by decide) _)

theorem v_pieces : iprop(∃ f : Buf (Elt F) ((c : Thread nD τ).loc cc0_scratch1), (c : Thread nD τ).loc cc0_scratch1 ↦{fullShare} f)
    ⊢ iprop(vAny (F := F) c 0 ∗ vAny c 1 ∗ vAny c 2 ∗ vAny c 3 ∗ vAny c 4 ∗ vAny c 5 ∗ vAny c 6 ∗ vAny c 7) :=
  (pieces_any (ℓ := (c : Thread nD τ).loc cc0_scratch1) w_parted).trans (Entails.of_eq (bigSep_univ_eq_bigSepL [0, 1, 2, 3, 4, 5, 6, 7] (by decide) (by decide) _))

theorem v_whole : vAll m c ⊢ iprop(∃ f : Buf (Elt F) ((c : Thread nD τ).loc cc0_scratch1), (c : Thread nD τ).loc cc0_scratch1 ↦{fullShare} f) := by
  unfold vAll
  rw [show box (s := S4096x2048) ![0, 0] ![4096, 2048] = Finset.univ from Finset.eq_univ_iff_forall.mpr fun x => mem_box.mpr fun a => by
    match a with
    | ⟨0, _⟩ => have : (x 0).val < 4096 := (x 0).isLt; show 0 ≤ (x 0).val ∧ (x 0).val < 0 + 4096; omega
    | ⟨1, _⟩ => have : (x 1).val < 2048 := (x 1).isLt; show 0 ≤ (x 1).val ∧ (x 1).val < 0 + 2048; omega]
  iintro H; iexists _; iexact H

theorem ws_pieces : iprop(∃ f : Buf (Elt F) ((c : Thread nD τ).loc cc0_scratch2), (c : Thread nD τ).loc cc0_scratch2 ↦{fullShare} f) ⊢ iprop(wAny (F := F) c 0 ∗ wAny c 1) :=
  (pieces_any (ℓ := (c : Thread nD τ).loc cc0_scratch2) slots_parted).trans (Entails.of_eq (bigSep_univ_eq_bigSepL [0, 1] (by decide) (by decide) _))
theorem xs_pieces : iprop(∃ f : Buf (Elt F) ((c : Thread nD τ).loc cc0_scratch3), (c : Thread nD τ).loc cc0_scratch3 ↦{fullShare} f) ⊢ iprop(xAny (F := F) c 0 ∗ xAny c 1) :=
  (pieces_any (ℓ := (c : Thread nD τ).loc cc0_scratch3) slots_parted).trans (Entails.of_eq (bigSep_univ_eq_bigSepL [0, 1] (by decide) (by decide) _))
theorem os_pieces : iprop(∃ f : Buf (Elt F) ((c : Thread nD τ).loc cc0_scratch4), (c : Thread nD τ).loc cc0_scratch4 ↦{fullShare} f) ⊢ iprop(oRest (F := F) c 0 0 512 ∗ oRest c 1 0 512) :=
  (pieces_any (ℓ := (c : Thread nD τ).loc cc0_scratch4) slots_parted).trans (Entails.of_eq (bigSep_univ_eq_bigSepL [0, 1] (by decide) (by decide) _))

/-- Two slots at any contents are the buffer at any contents. -/
theorem two_slots {ℓ : Loc nD τ sig} {S : Fin 2 → Finset ℓ.ty.shape.Idx} (h : Parted S) :
    iprop((∃ f, ℓ ↦[S 0]{fullShare} f) ∗ (∃ f, ℓ ↦[S 1]{fullShare} f)) ⊢ (iprop(∃ f : Buf (Elt F) ℓ, ℓ ↦{fullShare} f) : sProp 𝕄) := by
  have e : bigSep Finset.univ (fun s : Fin 2 => (iprop(∃ f, ℓ ↦[S s]{fullShare} f) : sProp 𝕄)) = iprop((∃ f, ℓ ↦[S 0]{fullShare} f) ∗ (∃ f, ℓ ↦[S 1]{fullShare} f)) :=
    bigSep_univ_eq_bigSepL [0, 1] (by decide) (by decide) _
  iintro ⟨H0, H1⟩
  icases H0 with ⟨%f, H0⟩
  iapply ((Entails.of_eq e.symm).trans (any_join f h 0))
  isplitl [H0]
  · iexists f; iexact H0
  iexact H1

theorem ws_whole : iprop(wAny (F := F) c 0 ∗ wAny c 1) ⊢ iprop(∃ f : Buf (Elt F) ((c : Thread nD τ).loc cc0_scratch2), (c : Thread nD τ).loc cc0_scratch2 ↦{fullShare} f) :=
  two_slots (ℓ := (c : Thread nD τ).loc cc0_scratch2) (S := fun s : Fin 2 => box (s := S2x512x2048) ![s.val, 0, 0] ![1, 512, 2048]) slots_parted
theorem xs_whole : iprop(xAny (F := F) c 0 ∗ xAny c 1) ⊢ iprop(∃ f : Buf (Elt F) ((c : Thread nD τ).loc cc0_scratch3), (c : Thread nD τ).loc cc0_scratch3 ↦{fullShare} f) :=
  two_slots (ℓ := (c : Thread nD τ).loc cc0_scratch3) (S := fun s : Fin 2 => box (s := S2x256x4096) ![s.val, 0, 0] ![1, 256, 4096]) slots_parted
theorem os_whole : iprop(oRest (F := F) c 0 0 512 ∗ oRest c 1 0 512) ⊢ iprop(∃ f : Buf (Elt F) ((c : Thread nD τ).loc cc0_scratch4), (c : Thread nD τ).loc cc0_scratch4 ↦{fullShare} f) :=
  two_slots (ℓ := (c : Thread nD τ).loc cc0_scratch4) (S := fun s : Fin 2 => box (s := S2x512x2048) ![s.val, 0, 0] ![1, 512, 2048]) slots_parted

theorem y_pieces : iprop(∃ f : Buf (Elt F) ((c : Thread nD τ).loc main_v1), (c : Thread nD τ).loc main_v1 ↦{fullShare} f)
    ⊢ iprop(yAny (F := F) c 0 ∗ yAny c 1 ∗ yAny c 2 ∗ yAny c 3 ∗ yAny c 4 ∗ yAny c 5 ∗ yAny c 6 ∗ yAny c 7 ∗ yAny c 8 ∗ yAny c 9 ∗ yAny c 10 ∗ yAny c 11) :=
  (pieces_any (ℓ := (c : Thread nD τ).loc main_v1) (y_parted c)).trans
    (Entails.of_eq (bigSep_univ_eq_bigSepL [0, 1, 2, 3, 4, 5, 6, 7, 8, 9, 10, 11] (by decide) (by decide) _))

/-- The output holds piece `j` at its place, for every `j`. -/
def Made (f : Buf (Elt F) ((c : Thread nD τ).loc main_v1)) : Prop := ∀ j, ∀ x ∈ box (s := S4096x2048) (ooff c j) ![on j, 2048], f x = Y m c j x

theorem y_whole : iprop(yPt m c 0 ∗ yPt m c 1 ∗ yPt m c 2 ∗ yPt m c 3 ∗ yPt m c 4 ∗ yPt m c 5 ∗ yPt m c 6 ∗ yPt m c 7 ∗ yPt m c 8 ∗ yPt m c 9 ∗ yPt m c 10 ∗ yPt m c 11)
    ⊢ iprop(∃ f, ⌜Made m c f⌝ ∗ ((c : Thread nD τ).loc main_v1 ↦{fullShare} f)) :=
  (Entails.of_eq (bigSep_univ_eq_bigSepL [0, 1, 2, 3, 4, 5, 6, 7, 8, 9, 10, 11] (by decide) (by decide) (yPt m c)).symm).trans
    (pieces_join (ℓ := (c : Thread nD τ).loc main_v1) (y_parted c) 0 (Y m c))

/-! ## The gather buffer -/

theorem lands_eq (Φ : Fin 14 → sProp (MT nD τ sig Unit (Elt F) ℕ UU ℕ)) :
    bigSep Finset.univ Φ = iprop(bigSep (Finset.univ.filter fun i => cright i = true) Φ ∗ bigSep (Finset.univ.filter fun i => cright i = false) Φ) := by
  refine Eq.trans ?_ (BI.bigSep_union (s := Finset.univ.filter fun i => cright i = true) (t := Finset.univ.filter fun i => cright i = false)
    (Finset.disjoint_filter.mpr fun i _ h h' => by rw [h] at h'; cases h'))
  exact congrArg (fun s => bigSep s Φ) (by decide)

/-- The landing pieces of the copies that come from one side, as the neighbour on that side is paid them. -/
theorem lands_pay (d : Bool) : bigSep (Finset.univ.filter fun i => cright i = d) (fun i => iprop(∃ f, landPt (F := F) c i f)) = barPay (peer (!d) c) d := by
  unfold barPay; rw [peer_peer]

theorem g_pieces : iprop(∃ f, xg c ↦{fullShare} f)
    ⊢ iprop((barPay (F := F) (peer false c) true ∗ barPay (peer true c) false) ∗ gAny c 3 0 256 ∗ gAny c 3 256 256 ∗ gAny c 3 512 256 ∗ gAny c 3 768 256) := by
  have e := lands_eq (F := F) fun i => iprop(∃ f, landPt (F := F) c i f)
  rw [lands_pay c true, lands_pay c false] at e
  have e' := bigSep_univ_eq_bigSepL [0, 1, 2, 3] (by decide) (by decide) (fun q : Fin 4 => gAny (F := F) c 3 (256 * q.val) 256)
  have s : (bigSep Finset.univ fun i => iprop(∃ f, xg c ↦[box (s := S4x1024x4096) ![(gTab i).1, (gTab i).2.1, 0] ![1, (gTab i).2.2, 4096]]{fullShare} f) : sProp 𝕄)
      = iprop(bigSep Finset.univ (fun i => iprop(∃ f, landPt (F := F) c i f)) ∗ bigSep Finset.univ fun q : Fin 4 => gAny (F := F) c 3 (256 * q.val) 256) :=
    BI.bigSep_univ_sum _
  rw [e, e'] at s
  exact (pieces_any (ℓ := xg c) g_parted).trans (Entails.of_eq s)

/-- What the barrier brought, with the tokens of each copy, makes every copy ready. -/
theorem all_ready : iprop((barPay c true ∗ barPay c false) ∗ bigSep Finset.univ (sIn (F := F) c)) ⊢ bigSep Finset.univ (sReady (F := F) c) := by
  have e : iprop(barPay (F := F) c true ∗ barPay c false) = bigSep Finset.univ fun i => iprop(∃ f, landPt (F := F) (peer (cright i) c) i f) := by
    rw [lands_eq]
    have h (d : Bool) : barPay (F := F) c d = bigSep (Finset.univ.filter fun i => cright i = d) fun i => iprop(∃ f, landPt (F := F) (peer (cright i) c) i f) :=
      bigSep_congr fun i hi => by rw [(Finset.mem_filter.mp hi).2]
    rw [h true, h false]
  rw [e]
  unfold sReady
  rw [bigSep_sep']
  iintro ⟨H1, H2⟩
  isplitl [H2]; · iexact H2
  iexact H1

theorem rows_join4 (q : PosShare TreeShare) : iprop(gPt m c q 3 0 256 ∗ gPt m c q 3 256 256 ∗ gPt m c q 3 512 256 ∗ gPt m c q 3 768 256) ⊢ gPt m c q 3 0 1024 := by
  iintro ⟨H0, H1, H2, H3⟩
  iapply (gPt_cut m c q 3 0 1024 256 768 256 rfl rfl).2
  isplitl [H0]; · iexact H0
  iapply (gPt_cut m c q 3 256 768 256 512 512 rfl rfl).2
  isplitl [H1]; · iexact H1
  iapply (gPt_cut m c q 3 512 512 256 256 768 rfl rfl).2
  isplitl [H2]; · iexact H2
  iexact H3

theorem rows_join3 (q : PosShare TreeShare) (s lo lo₁ lo₂ : ℕ) (h₁ : lo₁ = lo + 256) (h₂ : lo₂ = lo₁ + 128) :
    iprop(gPt m c q s lo 256 ∗ gPt m c q s lo₁ 128 ∗ gPt m c q s lo₂ 128) ⊢ gPt m c q s lo 512 := by
  iintro ⟨H0, H1, H2⟩
  iapply (gPt_cut m c q s lo 512 256 256 lo₁ rfl h₁).2
  isplitl [H0]; · iexact H0
  iapply (gPt_cut m c q s lo₁ 256 128 128 lo₂ rfl h₂).2
  isplitl [H1]; · iexact H1
  iexact H2

theorem halves_join (q : PosShare TreeShare) (s : ℕ) : iprop(gPt m c q s 0 512 ∗ gPt m c q s 512 512) ⊢ gPt m c q s 0 1024 :=
  (gPt_cut m c q s 0 1024 512 512 512 rfl rfl).2

theorem slots_whole : iprop(gPt m c fullShare 0 0 1024 ∗ gPt m c fullShare 1 0 1024 ∗ gPt m c fullShare 2 0 1024 ∗ gPt m c fullShare 3 0 1024) ⊢ (xg c ↦{fullShare} G m c) :=
  Entails.of_eq ((pieces_eq (ℓ := xg c) (S := fun s : Fin 4 => box (s := S4x1024x4096) ![s.val, 0, 0] ![1, 1024, 4096]) slots_parted (G m c)).trans
    (bigSep_univ_eq_bigSepL [0, 1, 2, 3] (by decide) (by decide) _)).symm

/-- The shares of the own rows that the copies returned, and the one that was loaded from; -/
theorem own_whole :
    iprop((gPt m c fullShare.left 3 0 256 ∗ gPt m c fullShare.left 3 256 256 ∗ gPt m c fullShare.left 3 512 256 ∗ gPt m c fullShare.left 3 768 256)
        ∗ (gPt m c fullShare.right.left 3 0 256 ∗ gPt m c fullShare.right.left 3 256 256 ∗ gPt m c fullShare.right.left 3 512 256 ∗ gPt m c fullShare.right.left 3 768 256)
        ∗ gPt m c fullShare.right.right 3 0 512 ∗ gPt m c fullShare.right.right 3 512 512)
      ⊢ gPt m c fullShare 3 0 1024 := by
  iintro ⟨H1, H2, H3⟩
  iapply (gPt_share m c fullShare 3 0 1024).2
  isplitl [H1]; · iapply (rows_join4 m c fullShare.left); iexact H1
  iapply (gPt_share m c fullShare.right 3 0 1024).2
  isplitl [H2]; · iapply (rows_join4 m c fullShare.right.left); iexact H2
  iapply (halves_join m c fullShare.right.right 3); iexact H3

/-- of five hundred and twelve rows that were passed on. -/
theorem passed_whole (s lo lo₁ lo₂ : ℕ) (h₁ : lo₁ = lo + 256) (h₂ : lo₂ = lo₁ + 128) :
    iprop((gPt m c fullShare.left s lo 256 ∗ gPt m c fullShare.left s lo₁ 128 ∗ gPt m c fullShare.left s lo₂ 128) ∗ gPt m c fullShare.right s lo 512)
      ⊢ gPt m c fullShare s lo 512 := by
  iintro ⟨H1, H2⟩
  iapply (gPt_share m c fullShare s lo 512).2
  isplitl [H1]; · iapply (rows_join3 m c fullShare.left s lo lo₁ lo₂ h₁ h₂); iexact H1
  iexact H2

/-- Fourteen of a kind, one by one. -/
theorem fin14_eq (Φ : Fin 14 → sProp (MT nD τ sig Unit (Elt F) ℕ UU ℕ)) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

end Cert.RingGemm

end
-- ==== Proof.Body.lean ====
/-
# The body, run once

The thirty-one parts in turn, between what a device holds before the body and what it holds after.
-/
module

public import proofs.«01_k».proof.Proof.PartsA
public import proofs.«01_k».proof.Proof.PartsB
public import proofs.«01_k».proof.Proof.PartsC
public import proofs.«01_k».proof.Proof.PartsD
public import proofs.«01_k».proof.Proof.Tiles

@[expose] public section

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-- One part, then the rest. -/
theorem run_seq {α β : Type} {Q : β → sProp (MT nD τ sig Unit (Elt F) ℕ UU ℕ)} (p : Prog (TpuEff nD τ sig (Elt F) Λ₀ .tc) α)
    (k : α → Prog (TpuEff nD τ sig (Elt F) Λ₀ .tc) β) : run c p (fun a => run c (k a) Q) ⊢ run c (p >>= k) Q := by
  unfold run; rw [wp_bind]

/-- The operands and the result in HBM: before, -/
def hbmIn : sProp 𝕄 :=
  iprop(((c : Thread nD τ).loc main_arg0 ↦{fullShare} m ((c : Thread nD τ).loc main_arg0)) ∗ ((c : Thread nD τ).loc main_arg1 ↦{fullShare} m ((c : Thread nD τ).loc main_arg1))
    ∗ ∃ f : Buf (Elt F) ((c : Thread nD τ).loc main_v1), (c : Thread nD τ).loc main_v1 ↦{fullShare} f)
/-- and after. -/
def hbmOut : sProp 𝕄 :=
  iprop(((c : Thread nD τ).loc main_arg0 ↦{fullShare} m ((c : Thread nD τ).loc main_arg0)) ∗ ((c : Thread nD τ).loc main_arg1 ↦{fullShare} m ((c : Thread nD τ).loc main_arg1))
    ∗ ∃ f, ⌜Made m c f⌝ ∗ ((c : Thread nD τ).loc main_v1 ↦{fullShare} f))

/-- The five scratch buffers, at any contents. -/
def scratch : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f)
    ∗ (∃ f : Buf (Elt F) ((c : Thread nD τ).loc cc0_scratch3), (c : Thread nD τ).loc cc0_scratch3 ↦{fullShare} f)
    ∗ (∃ f : Buf (Elt F) ((c : Thread nD τ).loc cc0_scratch4), (c : Thread nD τ).loc cc0_scratch4 ↦{fullShare} f))

/-- The six semaphores of the local copies, at rest. -/
def idles : sProp 𝕄 := iprop(xIdle (F := F) c 0 ∗ xIdle c 1 ∗ wIdle c 0 ∗ wIdle c 1 ∗ oIdle c 0 ∗ oIdle c 1)

/-- A device's part in the barrier: what it signals with, and what it waits with. -/
def barIn : sProp 𝕄 :=
  iprop(dutyTok ER (barCell (peer false c)) 0 true ∗ dutyTok ER (barCell (peer true c)) 0 false ∗ cred (tallyAt (barCell c) () 2) ∗ atPos ER (barCell c) 0 ∅ 0)

/-- The two scale words in their staging buffers. -/
def scales (f0 : Buf (Elt F) ((c : Thread nD τ).loc cc0_stg0_0)) (f1 : Buf (Elt F) ((c : Thread nD τ).loc cc0_stg1_0)) : sProp 𝕄 :=
  iprop(((c : Thread nD τ).loc cc0_stg0_0 ↦{fullShare} f0) ∗ ((c : Thread nD τ).loc cc0_stg1_0 ↦{fullShare} f1))

/-- What a device enters the body with, but the staged scales; -/
def bodyIn : sProp 𝕄 :=
  iprop(Env m K ∗ hbmIn m c ∗ scratch (F := F) c ∗ idles (F := F) c ∗ barIn (F := F) c ∗ bigSep Finset.univ (sIn (F := F) c) ∗ bigSep Finset.univ (rIn (F := F) c)
    ∗ ∃ W, owes (c : Thread nD τ) (owe₀ c) W)
/-- and what it leaves with. -/
def bodyOut : sProp 𝕄 :=
  iprop(hbmOut m c ∗ scratch (F := F) c ∗ idles (F := F) c ∗ semVal (barCell c) 0 ∗ bigSep Finset.univ (fun i => semVal (sendCell c i) 0)
    ∗ bigSep Finset.univ (fun i => semVal (recvCell c i) 0) ∗ Ow c [])

set_option maxHeartbeats 0 in
/-- The body. -/
theorem body_run {Q : PUnit → sProp (MT nD τ sig Unit (Elt F) ℕ UU ℕ)} (f0 : Buf (Elt F) ((c : Thread nD τ).loc cc0_stg0_0)) (f1 : Buf (Elt F) ((c : Thread nD τ).loc cc0_stg1_0))
    (h : k0_pay1 (f0 zero1) (f1 zero1) = sc m c) :
    iprop((scales c f0 f1 ∗ bodyIn m K c) ∗ ((scales c f0 f1 ∗ bodyOut m c) -∗ Q ⟨⟩))
      ⊢ run c (cc0_body (F := F) (Memref.whole cc0_stg0_0) (Memref.isWhole_whole _) (Memref.whole cc0_stg1_0) (Memref.isWhole_whole _) aM (Memref.isWhole_whole _) bM (Memref.isWhole_whole _) yM (Memref.isWhole_whole _) gM (Memref.isWhole_whole _) vM (Memref.isWhole_whole _) wM (Memref.isWhole_whole _) xM (Memref.isWhole_whole _) oM (Memref.isWhole_whole _) cc0_scratch5 cc0_scratch6 cc0_scratch7 cc0_scratch8 cc0_scratch9) Q := by
  rw [cc0_body_eq_skeleton]; unfold cc0_body_skel
  have hr := fin14_eq (rIn (F := F) c)
  have hs := fin14_eq (sReady (F := F) c)
  unfold scales bodyIn hbmIn scratch idles barIn
  rw [hr, x_pieces, w_pieces]
  iintro ⟨⟨⟨Hf0, Hf1⟩, #He, ⟨⟨Hx0, Hx1, Hx2, Hx3⟩, ⟨Hw0, Hw1, Hw2, Hw3, Hw4, Hw5, Hw6, Hw7⟩, Hy⟩, ⟨Hg, Hv, Hws, Hxs, Hos⟩, ⟨Hix0, Hix1, Hiw0, Hiw1, Hio0, Hio1⟩, ⟨Ht0, Ht1, Hc, Ha⟩, Hsends, ⟨Hr0, Hr1, Hr2, Hr3, Hr4, Hr5, Hr6, Hr7, Hr8, Hr9, Hr10, Hr11, Hr12, Hr13⟩, HO⟩, Hk⟩
  ihave Hg := (g_pieces c) $$ Hg
  icases Hg with ⟨⟨Hp0, Hp1⟩, Hg0, Hg1, Hg2, Hg3⟩
  ihave Hv := (v_pieces c) $$ Hv
  icases Hv with ⟨Hv0, Hv1, Hv2, Hv3, Hv4, Hv5, Hv6, Hv7⟩
  ihave Hws := (ws_pieces c) $$ Hws
  icases Hws with ⟨Hws0, Hws1⟩
  ihave Hxs := (xs_pieces c) $$ Hxs
  icases Hxs with ⟨Hxs0, Hxs1⟩
  ihave Hos := (os_pieces c) $$ Hos
  icases Hos with ⟨Hos0, Hos1⟩
  ihave Hy := (y_pieces c) $$ Hy
  icases Hy with ⟨Hy0, Hy1, Hy2, Hy3, Hy4, Hy5, Hy6, Hy7, Hy8, Hy9, Hy10, Hy11⟩
  iapply run_seq
  iapply (part1 m c f0 f1 h)
  isplitl [Hf0 Hf1 Hx0 Hxs0 Hix0]; · iframe
  iintro %v2 %v13 %v24 ⟨Hf0, Hf1, Hfx0⟩
  iapply run_seq
  iapply (part2 m K c v13 v24)
  isplitl [Hx1 Hxs1 Hix1 HO Ht0 Hp0 Ht1 Hp1 Hc Ha Hfx0 Hg0]; · iframe; iexact He
  iintro ⟨Hfx1, ⟨Hbar, Hland⟩, Hxs0, Hx0, Hix0, HO, Hg0⟩
  ihave Hs := (all_ready c) $$ [Hland Hsends]; · iframe
  ihave Hs := (Entails.of_eq hs) $$ Hs
  icases Hs with ⟨Hs0, Hs1, Hs2, Hs3, Hs4, Hs5, Hs6, Hs7, Hs8, Hs9, Hs10, Hs11, Hs12, Hs13⟩
  iapply run_seq
  iapply (part3 m K c v13 v24)
  isplitl [Hx2 Hxs0 Hix0 HO Hg0 Hs0 Hs4 Hfx1]; · iframe; iexact He
  iintro ⟨Hfx0, Hs0, Hs4, Hxs1, Hx1, Hix1, HO, Hrr0⟩
  iapply run_seq
  iapply (part4 m K c v13 v24)
  isplitl [Hxs1 Hg1 Hx3 Hix1 Hs1 HO]; · iframe; iexact He
  iintro ⟨Hfx1, Hs1, Hg1, Hrr1, HO⟩
  iapply run_seq
  iapply (part5 m K c v13 v24)
  isplitl [Hs5 Hg1 HO Hfx0 Hg2 Hs2]; · iframe; iexact He
  iintro ⟨Hs5, Hxs0, Hx2, Hix0, Hs2, Hg2, Hrr2, HO⟩
  iapply run_seq
  iapply (part6 m K c v24)
  isplitl [Hs6 Hg2 HO Hfx1 Hg3 Hs3]; · iframe; iexact He
  iintro ⟨Hs6, Hxs1, Hx3, Hix1, Hs3, Hg3, Hrr3, HO⟩
  iapply run_seq
  iapply (part7 m K c v13)
  isplitl [Hs7 Hg3 HO Hw0 Hws0 Hiw0 Hw1 Hws1 Hiw1]; · iframe; iexact He
  iintro ⟨Hs7, HO, Hws0, Hw0, Hiw0, Hfw1⟩
  iapply run_seq
  iapply (part8 m K c _)
  isplitl [HO Hv0 Hv1 Hw2 Hws0 Hiw0 Hfw1 Hw3]; · iframe; iexact He
  iintro ⟨HO, Hv0, Hv1, Hfw0, Hfw1, Hw1⟩
  iapply run_seq
  iapply (part9 m K c _)
  isplitl [HO Hfw0 Hfw1 Hv2 Hv3 Hw4]; · iframe; iexact He
  iintro ⟨HO, Hv2, Hv3, Hfw0, Hws1, Hiw1, Hw2, Hw3⟩
  iapply run_seq
  iapply (part10 m K c _)
  isplitl [HO Hws1 Hiw1 Hfw0 Hw5 Hw6 Hv4]; · iframe; iexact He
  iintro ⟨HO, Hv4, Hfw0, Hws1, Hiw1, Hw4, Hw5⟩
  iapply run_seq
  iapply (part11 m K c _)
  isplitl [HO Hv5 Hws1 Hiw1 Hw7 Hfw0 Hv6]; · iframe; iexact He
  iintro ⟨HO, Hv5, Hv6, Hws0, Hiw0, Hws1, Hiw1, Hw6, Hw7⟩
  ihave Hrr0 := (gPt_cut m c fullShare.right.right 3 0 512 256 256 256 rfl rfl).2 $$ [Hrr0 Hrr1]; · iframe
  ihave Hrr1 := (gPt_cut m c fullShare.right.right 3 512 512 256 256 768 rfl rfl).2 $$ [Hrr2 Hrr3]; · iframe
  iapply run_seq
  iapply (part12 m c v2 fullShare.right.right)
  isplitl [Hv0 Hv1 Hv2 Hv3 Hv4 Hv5 Hv6 Hv7 Hrr0 Hrr1 Hos0 Hio0 Hy0]; · iframe
  iintro ⟨Hv, Hrr0, Hrr1, Hfo0⟩
  iapply run_seq
  iapply (part13 m K c v24)
  isplitl [Hos1 Hio1 Hy1 Hr0 Hr1 HO]; · iframe; iexact He
  iintro ⟨Hfo1, Ha0, Hd0, Ha1, Hd1, HO⟩
  ihave Ha := (pass_split m c 0 0 256 384 rfl rfl) $$ [Ha0 Ha1]; · iframe
  icases Ha with ⟨Ha0, Ha1, Ha2, Har⟩
  iapply run_seq
  iapply (part14 m K c v24)
  isplitl [Hs8 Hs9 Hs10 Ha0 Ha1 Ha2 HO]; · iframe; iexact He
  iintro ⟨Hs8, Hs9, Hs10, HO⟩
  iapply run_seq
  iapply (part15 m K c v13 fullShare.right _)
  isplitl [Har Hfo0 Hv Hy2 HO]; · iframe; iexact He
  iintro ⟨Har, Hy0, Hfo0, Hv, HO⟩
  iapply run_seq
  iapply (part16 m K c v13 v24)
  isplitl [Hr4 Hr5 Hfo1 Hv HO]; · iframe; iexact He
  iintro ⟨Hb0, Hd4, Hd5, Hy1, Hos1, Hio1, Hv, HO⟩
  iapply run_seq
  iapply (part17 m K c v13 v24)
  isplitl [Hos1 Hio1 Hy3 Hr2 Hr3 HO]; · iframe; iexact He
  iintro ⟨Hfo1, Ha3, Hd2, Hd3, HO⟩
  iapply run_seq
  iapply (part18 m K c v13)
  isplitl [Hfo0 Hv Hy4 Hr6 HO]; · iframe; iexact He
  iintro ⟨Hy2, Hfo0, Hv, Hb1, Hd6, HO⟩
  iapply run_seq
  iapply (part19 m K c v13 _)
  isplitl [Hr7 Hb1 Hs11 Hs12 HO]; · iframe; iexact He
  iintro ⟨Hd7, Hs11, Hs12, Hb1, Hbr, HO⟩
  iapply run_seq
  iapply (part20 m K c v13 v24)
  isplitl [Hs13 Hb1 Hbr Hfo1 Hv HO]; · iframe; iexact He
  iintro ⟨Hs13, Hbr, Hy3, Hos1, Hio1, Hv, HO⟩
  iapply run_seq
  iapply (part21 m K c v2 v24)
  isplitl [Hos1 Hio1 Hy5 Hr8 Hfo0 HO]; · iframe; iexact He
  iintro %v565 ⟨Hfo1, Hc0, Hd8, Hy4, Hos0, Hio0, HO⟩
  iapply run_seq
  iapply (part22 m K c v13 v565)
  isplitl [Hv Hos0 Hio0 Hy6 Hr11 HO]; · iframe; iexact He
  iintro ⟨Hv, Ho256, Hfo0, Hc3, Hd11, HO⟩
  iapply run_seq
  iapply (part23 m K c v24 v565)
  isplitl [Hfo1 Hv Hy7 Hr9 HO]; · iframe; iexact He
  iintro ⟨Hy5, Hv, Hp256, Hfo1, Hc1, Hd9, HO⟩
  iapply run_seq
  iapply (part24 m K c v13)
  isplitl [Hfo0 Hv Hy8 Hr12 HO]; · iframe; iexact He
  iintro ⟨Hy6, Hv, Ho128, Hfo0, Hc4, Hd12, HO⟩
  iapply run_seq
  iapply (part25 m K c v24 v565 _)
  isplitl [Hc4 Hfo1 Hv Hy9 HO]; · iframe; iexact He
  iintro ⟨Hc4, Hy7, Hv, Hp128, Hfo1, HO⟩
  iapply run_seq
  iapply (part26 m K c v13 v565)
  isplitl [Hr10 Hfo0 Hv Hy10 HO]; · iframe; iexact He
  iintro ⟨Hc2, Hd10, Hy8, Hv, Hfo0, HO⟩
  iapply run_seq
  iapply (part27 m K c v565)
  isplitl [Hr13 Hfo1 Hv HO]; · iframe; iexact He
  iintro ⟨Hc5, Hd13, Hy9, Hv, Hos1, Hio1, HO⟩
  iapply run_seq
  iapply (part28 m K c)
  isplitl [Hos1 Hio1 Hy11 Hfo0 Hs0 Hs1 HO]; · iframe; iexact He
  iintro ⟨Hy10, Hos0, Hio0, Hy11, Hos1, Hio1, ⟨Hl0, He0⟩, ⟨Hl1, He1⟩, HO⟩
  iapply run_seq
  iapply (part29 m K c)
  isplitl [Hs2 Hs3 Hs4 Hs5 HO]; · iframe; iexact He
  iintro ⟨⟨Hl2, He2⟩, ⟨Hl3, He3⟩, ⟨Hm0, He4⟩, ⟨Hm1, He5⟩, HO⟩
  iapply run_seq
  iapply (part30 m K c)
  isplitl [Hs6 Hs7 Hs8 HO]; · iframe; iexact He
  iintro ⟨⟨Hm2, He6⟩, ⟨Hm3, He7⟩, ⟨Ha0, He8⟩, HO⟩
  iapply run_seq
  iapply (part31 m K c)
  isplitl [Hs9 Hs10 Hs11 Hs12 HO]; · iframe; iexact He
  iintro ⟨⟨Ha1, He9⟩, ⟨Ha2, He10⟩, ⟨Hb1, He11⟩, ⟨Hb2, He12⟩, HO⟩
  simp only [Prog.lift, Prog.bind_op, Prog.bind_ret, Prog.pure_eq_ret]
  iapply (g_sent m K c 13 fullShare.left 1 896 128 rfl rfl rfl rfl) $$ [Hs13 HO]
  · iframe He Hs13 HO
  iintro ⟨Hb3, He13, HO⟩
  iapply run_ret
  iapply Hk
  unfold bodyOut hbmOut scratch idles
  rw [fin14_eq, fin14_eq, x_pieces, w_pieces]
  ihave Hy := (y_whole m c) $$ [Hy0 Hy1 Hy2 Hy3 Hy4 Hy5 Hy6 Hy7 Hy8 Hy9 Hy10 Hy11]; · iframe
  ihave Hown := (own_whole m c) $$ [Hl0 Hl1 Hl2 Hl3 Hm0 Hm1 Hm2 Hm3 Hrr0 Hrr1]; · iframe
  ihave Hal := (passed_whole m c 0 0 256 384 rfl rfl) $$ [Ha0 Ha1 Ha2 Har]; · iframe
  ihave Hall := (halves_join m c fullShare 0) $$ [Hal Ha3]; · iframe
  ihave Hbl := (passed_whole m c 1 512 768 896 rfl rfl) $$ [Hb1 Hb2 Hb3 Hbr]; · iframe
  ihave Hbll := (halves_join m c fullShare 1) $$ [Hb0 Hbl]; · iframe
  ihave Hcl := (rows_join3 m c fullShare 2 0 256 384 rfl rfl) $$ [Hc0 Hc1 Hc2]; · iframe
  ihave Hch := (rows_join3 m c fullShare 2 512 768 896 rfl rfl) $$ [Hc3 Hc4 Hc5]; · iframe
  ihave Hcll := (halves_join m c fullShare 2) $$ [Hcl Hch]; · iframe
  ihave Hg := (slots_whole m c) $$ [Hall Hbll Hcll Hown]; · iframe
  ihave Hv := (v_whole m c) $$ Hv
  ihave Hws0 := (wSlot_any m c 0 6) $$ Hws0
  ihave Hws1 := (wSlot_any m c 1 7) $$ Hws1
  ihave Hws := (ws_whole c) $$ [Hws0 Hws1]; · iframe
  ihave Hxs0 := (xSlot_any m c 0 2) $$ Hxs0
  ihave Hxs1 := (xSlot_any m c 1 3) $$ Hxs1
  ihave Hxs := (xs_whole c) $$ [Hxs0 Hxs1]; · iframe
  ihave Hos0 := (oRest_join c 0 0 256 128 128 128 rfl rfl) $$ [Hos0 Ho128]; · iframe
  ihave Hos0 := (oRest_join c 0 0 512 256 256 256 rfl rfl) $$ [Hos0 Ho256]; · iframe
  ihave Hos1 := (oRest_join c 1 0 256 128 128 128 rfl rfl) $$ [Hos1 Hp128]; · iframe
  ihave Hos1 := (oRest_join c 1 0 512 256 256 256 rfl rfl) $$ [Hos1 Hp256]; · iframe
  ihave Hos := (os_whole c) $$ [Hos0 Hos1]; · iframe
  isplitl [Hf0 Hf1]; · iframe
  isplitl [Hx0 Hx1 Hx2 Hx3 Hw0 Hw1 Hw2 Hw3 Hw4 Hw5 Hw6 Hw7 Hy]; · iframe
  isplitl [Hg Hv Hws Hxs Hos]
  · isplitl [Hg]; · iexists _; iexact Hg
    iframe
  isplitl [Hix0 Hix1 Hiw0 Hiw1 Hio0 Hio1]; · iframe
  isplitl [Hbar]; · iexact Hbar
  isplitl [He0 He1 He2 He3 He4 He5 He6 He7 He8 He9 He10 He11 He12 He13]; · iframe
  isplitl [Hd0 Hd1 Hd2 Hd3 Hd4 Hd5 Hd6 Hd7 Hd8 Hd9 Hd10 Hd11 Hd12 Hd13]; · iframe
  iexact HO

end Cert.RingGemm

end
-- ==== Proof.Ghost.lean ====
/-
# What the launch deals out

The fresh cells of every device are made under one update, since neighbours open one another's; each device keeps the
positions of its own cells and gets the tokens of the payments it makes, which are minted with the payee. What the
devices owe at launch is what each may wait for.
-/
module

public import proofs.«01_k».proof.Proof.Body
public import Idealize.ShloMosaic.Lib.Pipeline.Launch
public import Idealize.ShloMosaic.Lib.Pipeline.Kit

@[expose] public section

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-! ## Separating conjunctions over the cells of a device -/

theorem option_eq {A : Type} [Fintype A] [DecidableEq A] (Φ : Option A → sProp (MT nD τ sig Unit (Elt F) ℕ UU ℕ)) :
    bigSep Finset.univ Φ = iprop(Φ none ∗ bigSep Finset.univ fun a => Φ (some a)) := by
  have e : (Finset.univ : Finset (Option A)).erase none = Finset.univ.map Function.Embedding.some := by
    ext x; cases x <;> simp
  rw [bigSep_univ_at Φ none, e, bigSep_map]; rfl

theorem bool_eq (Φ : Bool → sProp (MT nD τ sig Unit (Elt F) ℕ UU ℕ)) : bigSep Finset.univ Φ = iprop(Φ true ∗ Φ false) :=
  bigSep_univ_eq_bigSepL [true, false] (by decide) (by decide) Φ

theorem pair_eq (Φ : Bool × Fin 14 → sProp (MT nD τ sig Unit (Elt F) ℕ UU ℕ)) :
    bigSep Finset.univ Φ = iprop((bigSep Finset.univ fun i => Φ (true, i)) ∗ bigSep Finset.univ fun i => Φ (false, i)) := by
  rw [bigSep_univ_prod, bool_eq]

theorem cells_eq (Φ : Cell → sProp (MT nD τ sig Unit (Elt F) ℕ UU ℕ)) :
    bigSep Finset.univ Φ = iprop(Φ none ∗ (bigSep Finset.univ fun i => Φ (some (true, i))) ∗ bigSep Finset.univ fun i => Φ (some (false, i))) := by
  rw [option_eq, pair_eq]

/-! ## The kernel's own semaphores -/

def idleSem : Fin 6 → DmaSem sig := ![xsem 0, xsem 1, wsem 0, wsem 1, osem 0, osem 1]
/-- The send and receive semaphores, and those of the local copies. -/
def scopedSem : (Bool × Fin 14) ⊕ Fin 6 → SemLoc sig
  | .inl bi => csem (some bi)
  | .inr j => .dma (idleSem j)

set_option maxRecDepth 20000 in
theorem scopedFacts : Pipeline.OwnSemFacts cfg0.spec scopedSem := by decide +kernel

theorem idles_eq : (bigSep Finset.univ fun j : Fin 6 => (semVal ((c : Thread nD τ), .dma (idleSem j)) 0 : sProp 𝕄)) = idles (F := F) c :=
  bigSep_univ_eq_bigSepL [0, 1, 2, 3, 4, 5] (by decide) (by decide) _

theorem ownSems_eq : (Pipeline.ownSems0 (Ix := Unit) (Name := ℕ) (U := UU) (Lvl := ℕ) (Val := Elt F) (τ := τ) scopedSem c : sProp 𝕄)
    = iprop(((bigSep Finset.univ fun i => semVal (recvCell c i) 0) ∗ bigSep Finset.univ fun i => semVal (sendCell c i) 0) ∗ idles (F := F) c) := by
  have e : iprop((bigSep Finset.univ fun i => semVal (recvCell c i) 0) ∗ bigSep Finset.univ fun i => semVal (sendCell c i) 0)
      = (bigSep Finset.univ fun bi => semVal (kcell (c, some bi)) 0 : sProp 𝕄) := (pair_eq fun bi => semVal (kcell (c, some bi)) 0).symm
  rw [← idles_eq, e]
  unfold Pipeline.ownSems0
  exact BI.bigSep_univ_sum _

theorem barSem_eq : (unscopedSems0 c : sProp 𝕄) = semVal (barCell c) 0 := by
  unfold unscopedSems0; rw [bigSep_eq_bigSepL_of_eq [SemLoc.reg barS] (by decide) (by decide)]; rfl

/-! ## The tokens -/

def allCells : Finset (GSem nD τ sig) := Finset.univ.map ⟨kcell, kcell_injective⟩

/-- The payments to one device: the two to its barrier, and one to each of its copies' cells. -/
abbrev Pay : Type := Bool ⊕ (Bool × Fin 14)
def payOf : Dev nD × Pay → GSem nD τ sig × ℕ × Bool
  | (c, .inl b) => (barCell c, 0, b)
  | (c, .inr bi) => (kcell (c, some bi), 0, false)

theorem payOf_injective : Function.Injective payOf := by
  rintro ⟨c, p⟩ ⟨c', p'⟩ h
  have hk := congrArg (fun x : GSem nD τ sig × ℕ × Bool => x.1) h
  have hb := congrArg (fun x : GSem nD τ sig × ℕ × Bool => x.2.2) h
  rcases p with b | bi <;> rcases p' with b' | bi'
  · have e := kcell_injective (a₁ := (c, none)) (a₂ := (c', none)) hk
    rw [show c = c' from congrArg Prod.fst e, show b = b' from hb]
  · have e := kcell_injective (a₁ := (c, none)) (a₂ := (c', some bi')) hk
    exact nomatch congrArg Prod.snd e
  · have e := kcell_injective (a₁ := (c, some bi)) (a₂ := (c', none)) hk
    exact nomatch congrArg Prod.snd e
  · have e := kcell_injective (a₁ := (c, some bi)) (a₂ := (c', some bi')) hk
    rw [show c = c' from congrArg Prod.fst e, show bi = bi' from Option.some.inj (congrArg Prod.snd e)]
def allPays : Finset (GSem nD τ sig × ℕ × Bool) := Finset.univ.map ⟨payOf, payOf_injective⟩

/-- The initial element: the pipeline's part, the ring's, and nothing of the local copies'. -/
def u₀ : UU := (initOf (Pipeline.cells cfgs cellOf_inj) (Pipeline.launchToks cfgs cellOf_inj), (initOf allCells allPays, 1))

/-- The tokens of the payments TO device `c`; -/
def minted : sProp 𝕄 :=
  iprop((dutyTok ER (barCell c) 0 true ∗ dutyTok ER (barCell c) 0 false)
    ∗ (bigSep Finset.univ fun i => dutyTok ER (recvCell c i) 0 false) ∗ bigSep Finset.univ fun i => dutyTok ER (sendCell c i) 0 false)
/-- of those it makes. -/
def dealt : sProp 𝕄 :=
  iprop((dutyTok ER (barCell (peer false c)) 0 true ∗ dutyTok ER (barCell (peer true c)) 0 false)
    ∗ (bigSep Finset.univ fun i => dutyTok ER (recvCell (peer (cright i) c) i) 0 false) ∗ bigSep Finset.univ fun i => dutyTok ER (sendCell c i) 0 false)

/-- From a device and a copy to the device the copy goes to. -/
def toward : Dev nD × Fin 14 ≃ Dev nD × Fin 14 :=
  ⟨fun p => (peer (cright p.2) p.1, p.2), fun p => (peer (!cright p.2) p.1, p.2), fun p => Prod.ext (peer_peer' _ _) rfl, fun p => Prod.ext (peer_peer _ _) rfl⟩

theorem deal : (bigSep Finset.univ fun c : Dev nD => (minted (F := F) c)) ⊢ bigSep Finset.univ fun c : Dev nD => dealt (F := F) c := by
  have e1 (d b : Bool) : (bigSep Finset.univ fun c : Dev nD => (dutyTok ER (barCell c) 0 b : sProp 𝕄)) = bigSep Finset.univ fun c => dutyTok ER (barCell (peer d c)) 0 b :=
    bigSep_univ_equiv (turn d) (fun c : Dev nD => (dutyTok ER (barCell c) 0 b : sProp 𝕄))
  have e2 : (bigSep Finset.univ fun c : Dev nD => bigSep Finset.univ fun i => (dutyTok ER (recvCell c i) 0 false : sProp 𝕄))
      = bigSep Finset.univ fun c : Dev nD => bigSep Finset.univ fun i => dutyTok ER (recvCell (peer (cright i) c) i) 0 false := by
    rw [← bigSep_univ_prod (fun p : Dev nD × Fin 14 => (dutyTok ER (recvCell p.1 p.2) 0 false : sProp 𝕄)),
      ← bigSep_univ_prod (fun p : Dev nD × Fin 14 => (dutyTok ER (recvCell (peer (cright p.2) p.1) p.2) 0 false : sProp 𝕄))]
    exact bigSep_univ_equiv toward _
  unfold minted dealt
  simp only [bigSep_sep']
  rw [e1 false true, e1 true false, e2]

/-! ## The cells, opened -/

/-- What the initial element gives device `c`. -/
def given : sProp 𝕄 :=
  iprop((bigSep Finset.univ fun k : Cell => roundState ER (Rd m) (kcell (c, k)) 0)
    ∗ (bigSep Finset.univ fun k : Cell => iprop(atPos ER (kcell (c, k)) 0 ∅ 0 ∗ reached ER (kcell (c, k)) 0)) ∗ minted c)

theorem fund_all : BI.own (ER (initOf allCells allPays)) ⊢ (|==> bigSep Finset.univ (given m) : sProp 𝕄) := by
  have hc (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have ht : bigSep allPays (fun x => (dutyTok ER x.1 x.2.1 x.2.2 : sProp 𝕄)) = bigSep Finset.univ fun c : Dev nD => minted c := by
    unfold allPays; rw [bigSep_map, bigSep_univ_prod]
    refine bigSep_congr fun c _ => ?_
    have e := BI.bigSep_univ_sum fun p : Pay => (dutyTok ER (payOf (c, p)).1 (payOf (c, p)).2.1 (payOf (c, p)).2.2 : sProp 𝕄)
    refine e.trans ?_
    unfold minted
    rw [bool_eq, pair_eq]; rfl
  iintro H
  imod (Rounds.fund ER (Rd m) allCells allPays) $$ H with ⟨Hst, Hr, Hat, Htok⟩
  imodintro
  ihave Hst := (Entails.of_eq (hc fun g => roundState ER (Rd m) g 0)) $$ Hst
  ihave Hat := (Entails.of_eq (hc fun g => atPos ER g 0 ∅ 0)) $$ Hat
  ihave Hr := (Entails.of_eq (hc fun g => reached ER g 0)) $$ Hr
  ihave Htok := (Entails.of_eq ht) $$ Htok
  unfold given; simp only [bigSep_sep']
  isplitl [Hst]; · iexact Hst
  isplitl [Hat Hr]; · iframe
  iexact Htok

/-- A device's semaphores at zero with its round states are invariants; the local copies' semaphores stay as they are. -/
theorem open_cells :
    iprop(Pipeline.ownSems0 (Ix := Unit) (Name := ℕ) (U := UU) (Lvl := ℕ) (Val := Elt F) (τ := τ) scopedSem c ∗ unscopedSems0 c ∗ given m c)
      ⊢ |={Set.univ}=> iprop((bigSep Finset.univ fun k : Cell => iprop(∃ κ : ℕ, cellInv ER (Rd m) κ (kcell (c, k))))
          ∗ ((bigSep Finset.univ fun k : Cell => atPos ER (kcell (c, k)) 0 ∅ 0) ∗ bigSep Finset.univ fun k : Cell => reached ER (kcell (c, k)) 0) ∗ minted c ∗ idles (F := F) c) := by
  have hv : iprop(((bigSep Finset.univ fun i => semVal (recvCell c i) 0) ∗ bigSep Finset.univ fun i => semVal (sendCell c i) 0) ∗ semVal (barCell c) 0)
      ⊢ (bigSep Finset.univ fun k : Cell => semVal (kcell (c, k)) 0 : sProp 𝕄) := by
    rw [cells_eq]
    iintro ⟨⟨Hr, Hs⟩, Hb⟩
    isplitl [Hb]; · iexact Hb
    isplitl [Hr]; · iexact Hr
    iexact Hs
  have hi : iprop((bigSep Finset.univ fun k : Cell => semVal (kcell (c, k)) 0) ∗ bigSep Finset.univ fun k : Cell => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  rw [ownSems_eq, barSem_eq]
  unfold given
  rw [bigSep_sep']
  iintro ⟨⟨Hsr, Hid⟩, Hb, Hst, Hat, Htok⟩
  ihave Hv := hv $$ [Hsr Hb]
  · isplitl [Hsr]; · iexact Hsr
    iexact Hb
  imod hi $$ [Hv Hst] with Hinv
  · isplitl [Hv]; · iexact Hv
    iexact Hst
  imodintro
  isplitl [Hinv]; · iexact Hinv
  isplitl [Hat]; · iexact Hat
  isplitl [Htok]; · iexact Htok
  iexact Hid

/-- What every device may read: its own and the others' cells. -/
def shared (K : Dev nD × Cell → ℕ) : sProp 𝕄 := bigSep Finset.univ fun ck => iprop(cellInv ER (Rd m) (K ck) (kcell ck) ∗ reached ER (kcell ck) 0)
instance shared_persistent (K : Dev nD × Cell → ℕ) : BI.Persistent (shared m K) := by unfold shared; infer_instance

/-- What is device `c`'s own. -/
def private' : sProp 𝕄 := iprop((bigSep Finset.univ fun k : Cell => atPos ER (kcell (c, k)) 0 ∅ 0) ∗ dealt c ∗ idles (F := F) c)

/-- What device `c` starts from, but buffers and credit. -/
def opened : sProp 𝕄 := iprop(∃ K, shared m K ∗ private' c)

theorem share_out {I : Type} [DecidableEq I] (S : Finset I) {R : sProp (MT nD τ sig Unit (Elt F) ℕ UU ℕ)} [BI.Persistent R] {Φ Ψ : I → sProp (MT nD τ sig Unit (Elt F) ℕ UU ℕ)}
    (h : ∀ i, iprop(R ∗ Φ i) ⊢ Ψ i) : iprop(R ∗ bigSep S Φ) ⊢ bigSep S Ψ := by
  have e : iprop(R ∗ bigSep S Φ) ⊢ iprop((bigSep S fun _ => R) ∗ bigSep S Φ) := sep_mono_left (BI.bigSep_of_persistent S R)
  rw [← bigSep_sep'] at e
  exact e.trans (bigSep_mono fun i _ => h i)

theorem gather_cells :
    (bigSep Finset.univ fun c : Dev nD => iprop((bigSep Finset.univ fun k : Cell => iprop(∃ κ : ℕ, cellInv ER (Rd m) κ (kcell (c, k))))
        ∗ ((bigSep Finset.univ fun k : Cell => atPos ER (kcell (c, k)) 0 ∅ 0) ∗ bigSep Finset.univ fun k : Cell => reached ER (kcell (c, k)) 0) ∗ minted c ∗ idles (F := F) c) : sProp 𝕄)
      ⊢ bigSep Finset.univ (opened m) := by
  simp only [bigSep_sep']
  rw [← bigSep_univ_prod (fun ck : Dev nD × Cell => iprop(∃ κ : ℕ, cellInv ER (Rd m) κ (kcell ck))),
    ← bigSep_univ_prod (fun ck : Dev nD × Cell => (reached ER (kcell ck) 0 : sProp 𝕄))]
  iintro ⟨HI, ⟨Hat, Hr⟩, Htok, Hid⟩
  ihave HK := (BI.bigSep_exists_pi Finset.univ (fun (ck : Dev nD × Cell) (κ : ℕ) => (cellInv ER (Rd m) κ (kcell ck) : sProp 𝕄))) $$ HI
  icases HK with ⟨%K, HI⟩
  ihave Hsh := (Entails.of_eq (bigSep_sep' Finset.univ (fun ck : Dev nD × Cell => (cellInv ER (Rd m) (K ck) (kcell ck) : sProp 𝕄)) (fun ck => reached ER (kcell ck) 0)).symm) $$ [HI Hr]
  · isplitl [HI]; · iexact HI
    iexact Hr
  ihave Htok := (deal (F := F)) $$ Htok
  have e : (bigSep Finset.univ fun c : Dev nD => private' (F := F) c)
      = iprop((bigSep Finset.univ fun c : Dev nD => bigSep Finset.univ fun k : Cell => atPos ER (kcell (c, k)) 0 ∅ 0)
          ∗ (bigSep Finset.univ fun c : Dev nD => dealt c) ∗ bigSep Finset.univ fun c : Dev nD => idles (F := F) c) := by
    unfold private'; rw [bigSep_sep', bigSep_sep']
  iapply (share_out Finset.univ (R := shared m K) (Φ := private') (Ψ := opened m) fun c => by
    unfold opened; iintro H; iexists K; iexact H)
  isplitl [Hsh]; · unfold shared; iexact Hsh
  rw [e]
  isplitl [Hat]; · iexact Hat
  isplitl [Htok]; · iexact Htok
  iexact Hid

theorem open_all :
    (bigSep Finset.univ fun c => iprop(Pipeline.ownSems0 (Ix := Unit) (Name := ℕ) (U := UU) (Lvl := ℕ) (Val := Elt F) (τ := τ) scopedSem c ∗ unscopedSems0 c ∗ given m c) : sProp 𝕄)
      ⊢ |={Set.univ}=> bigSep Finset.univ (opened m) :=
  ((bigSep_mono fun c _ => open_cells m c).trans (bigSep_fupd _ _)).trans (BI.fupd_mono (gather_cells m))

/-! ## The credit at launch -/

theorem cell_eq {c d : Dev nD} {k k' : Cell} : kcell (c, k) = kcell (d, k') ↔ c = d ∧ k = k' :=
  ⟨fun h => ⟨congrArg Prod.fst (kcell_injective h), congrArg Prod.snd (kcell_injective h)⟩, fun ⟨h, h'⟩ => by rw [h, h']⟩

theorem sends_bar (d : Dev nD) : ∀ l, oweSends d l (barCell c) () = 0
  | [] => rfl
  | i :: l => by
    unfold oweSends
    rw [Pi.add_apply, Finsupp.add_apply, sends_bar d l, tallyAt_apply, if_neg fun h => nomatch (cell_eq (k := none) (k' := some (true, i)).mp h.1).2]

theorem sends_recv (d : Dev nD) (i : Fin 14) : ∀ l : List (Fin 14), l.Nodup → oweSends d l (recvCell c i) () = if i ∈ l ∧ d = peer (!cright i) c then amt i else 0
  | [], _ => (if_neg fun h => nomatch h.1).symm
  | j :: l, hl => by
    obtain ⟨hj, hl⟩ := List.nodup_cons.mp hl
    unfold oweSends
    rw [Pi.add_apply, Finsupp.add_apply, sends_recv d i l hl, tallyAt_apply]
    by_cases e : j = i
    · subst e
      rw [if_neg fun h => hj h.1, Nat.zero_add]
      by_cases hd : d = peer (!cright j) c
      · subst hd; rw [peer_peer, if_pos ⟨rfl, rfl⟩, if_pos ⟨List.mem_cons_self, rfl⟩]
      · rw [if_neg fun h => hd ((peer_peer' (cright j) d).symm.trans (congrArg (peer (!cright j)) (cell_eq (k := some (true, j)) (k' := some (true, j)).mp h.1).1.symm)), if_neg fun h => hd h.2]
    · have hn : ¬ (recvCell c i = recvCell (peer (cright j) d) j ∧ () = ()) := fun h =>
        e (congrArg Prod.snd (Option.some.inj (cell_eq (k := some (true, i)) (k' := some (true, j)).mp h.1).2)).symm
      rw [if_neg hn]
      refine Eq.trans (Nat.add_zero _) ?_
      refine if_congr ?_ rfl rfl
      rw [List.mem_cons]
      exact ⟨fun h => ⟨.inr h.1, h.2⟩, fun h => ⟨h.1.resolve_left fun e' => e e'.symm, h.2⟩⟩

theorem bar_owed (d c : Dev nD) (b : Bool) : (tallyAt (barCell (peer b d)) () 1 : CellTallies nD τ sig Unit) (barCell c) () = if d = peer (!b) c then 1 else 0 := by
  rw [tallyAt_apply]
  by_cases h : d = peer (!b) c
  · subst h; rw [peer_peer, if_pos ⟨rfl, rfl⟩, if_pos rfl]
  · rw [if_neg h, if_neg fun h' => h ((peer_peer' b d).symm.trans (congrArg (peer (!b)) (cell_eq (k := none) (k' := none).mp h'.1).1.symm))]

theorem bar_other (d : Dev nD) (b : Bool) (i : Fin 14) : (tallyAt (barCell (peer b d)) () 1 : CellTallies nD τ sig Unit) (recvCell c i) () = 0 := by
  rw [tallyAt_apply, if_neg fun h => nomatch (cell_eq (k := some (true, i)) (k' := none).mp h.1).2]

theorem credit_bar : tallyOn (barCell c) (launchCredit (Pipeline.owing owe₀) 0 (barCell c)) = (tallyAt (barCell c) () 2 : CellTallies nD τ sig Unit) := by
  unfold tallyAt; refine congrArg _ (Finsupp.ext fun u => ?_); cases u
  have e (d : Dev nD) : owe₀ d (barCell c) () = (if d = peer false c then 1 else 0) + (if d = peer true c then 1 else 0) := by
    unfold owe₀ owe₁
    rw [Pi.add_apply, Finsupp.add_apply, Pi.add_apply, Finsupp.add_apply, sends_bar, bar_owed, bar_owed, Nat.zero_add]; rfl
  rw [Pipeline.launchCredit_owing, Finsupp.single_eq_same, Finset.sum_congr rfl fun d _ => e d, Finset.sum_add_distrib,
    Finset.sum_ite_eq' Finset.univ (peer false c) fun _ => 1, Finset.sum_ite_eq' Finset.univ (peer true c) fun _ => 1, if_pos (Finset.mem_univ _), if_pos (Finset.mem_univ _)]

theorem credit_recv (i : Fin 14) :
    tallyOn (recvCell c i) (launchCredit (Pipeline.owing owe₀) 0 (recvCell c i)) = (tallyAt (recvCell c i) () (amt i) : CellTallies nD τ sig Unit) := by
  unfold tallyAt; refine congrArg _ (Finsupp.ext fun u => ?_); cases u
  have e (d : Dev nD) : owe₀ d (recvCell c i) () = if d = peer (!cright i) c then amt i else 0 := by
    unfold owe₀ owe₁
    rw [Pi.add_apply, Finsupp.add_apply, Pi.add_apply, Finsupp.add_apply, sends_recv c d i order (by decide), bar_other, bar_other]
    exact if_congr ⟨fun h => h.2, fun h => ⟨(by decide : ∀ i, i ∈ order) i, h⟩⟩ rfl rfl
  rw [Pipeline.launchCredit_owing, Finsupp.single_eq_same, Finset.sum_congr rfl fun d _ => e d, Finset.sum_ite_eq' Finset.univ _ fun _ => amt i, if_pos (Finset.mem_univ _)]

/-- The credit of a device's barrier and of the copies that come in. -/
theorem credits : (Pipeline.launchCred owe₀ c : sProp 𝕄) ⊢ iprop(cred (tallyAt (barCell c) () 2) ∗ bigSep Finset.univ fun i => cred (tallyAt (recvCell c i) () (amt i))) := by
  let e : Option (Fin 14) ↪ SemLoc sig := ⟨fun o => csem (o.map (Prod.mk true)), fun a b h => by
    have := csem_injective h
    revert a b; decide⟩
  unfold Pipeline.launchCred
  rw [BI.bigSep_sdiff_split (Finset.subset_univ (Finset.univ.map e)), bigSep_map, option_eq]
  refine sep_elim_left.trans (BI.sep_mono ?_ (bigSep_mono fun i _ => ?_))
  · exact Entails.of_eq (congrArg cred (credit_bar c))
  · exact Entails.of_eq (congrArg cred (credit_recv c i))

end Cert.RingGemm

end
-- ==== Proof.Launch.lean ====
/-
# The run of the whole program

The body at a symbolic device, the cells opened for all devices at once, the two scale words staged in and nothing staged
out: every execution ends, with the result made of the twelve tiles, the operands as they were and every semaphore at zero.
-/
module

public import proofs.«01_k».proof.Proof.Ghost
public import proofs.«01_k».proof.Proof.Gen.KernelIdeal.Points
public import Idealize.ShloMosaic.Lib.Pipeline.CollectiveSegs
public import Idealize.ShloMosaic.Lib.Quiescent
public import Idealize.ShloMosaic.Lib.Tactic

@[expose] public section

set_option maxRecDepth 4000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

variable (ρ : Dev nD → PrngReg)
variable (m : (ℓ : Loc nD τ sig) → Buf (Elt F) ℓ) (K : Dev nD × Cell → ℕ) (c : Dev nD)

open Idealize.ShloMosaic.Pipeline (Dat BodyObligation)

abbrev s₀ (m : (ℓ : Loc nD τ sig) → Buf (Elt F) ℓ) (ρ : Dev nD → PrngReg) : MemSt nD τ sig (Elt F) := ⟨m, fun _ => 0, ρ⟩

/-- The scale words as staged. -/
def stagedX : (cc0_stg0_0 : Ref sig .tc).ty.Contents (Elt F) := (win0_0.blk (0 : Fin 1)).view.read (Elt F) (m ((c : Thread nD τ).loc main_arg2))
def stagedW : (cc0_stg1_0 : Ref sig .tc).ty.Contents (Elt F) := (win0_1.blk (0 : Fin 1)).view.read (Elt F) (m ((c : Thread nD τ).loc main_arg3))

/-- A scale has one word. -/
theorem one_word (i : S1.Idx) : i = zero1 := by
  funext k; fin_cases k; exact Fin.ext (Nat.lt_one_iff.mp (i 0).isLt)
theorem staged_sc : k0_pay1 (stagedX m c zero1) (stagedW m c zero1) = sc m c :=
  congrArg₂ k0_pay1 (congrArg (m ((c : Thread nD τ).loc main_arg2)) (one_word _)) (congrArg (m ((c : Thread nD τ).loc main_arg3)) (one_word _))

/-- What device `c` starts from, but its scratch buffers. -/
def start : sProp 𝕄 :=
  iprop((opened m c ∗ levAts L lv) ∗ hbmIn m c ∗ (cred (tallyAt (barCell c) () 2) ∗ bigSep Finset.univ fun i => cred (tallyAt (recvCell c i) () (amt i))))
def before : sProp 𝕄 := iprop(start m c ∗ scratch (F := F) c)
/-- What it ends with, but its scratch buffers: all cells closed. -/
def ended : sProp 𝕄 := iprop(hbmOut m c ∗ unscopedSems0 c)
def after : sProp 𝕄 :=
  iprop(ended m c ∗ Pipeline.ownSems0 (Ix := Unit) (Name := ℕ) (U := UU) (Lvl := ℕ) (Val := Elt F) (τ := τ) scopedSem c ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stagedX m c
    | ⟨1, _⟩ => stagedW m c
  Φ t := match t with
    | ⟨0, _⟩ => before m c
    | ⟨_ + 1, _⟩ => after m c
  q _ := fullShare
  owed t := match t with
    | ⟨0, _⟩ => owe₀ c
    | ⟨_ + 1, _⟩ => 0

theorem cfg_N : cfg0.N = 1 := by decide
def point : Fin cfg0.N := ⟨0, by rw [cfg_N]; decide⟩
theorem eq_point (t : Fin cfg0.N) : t = point := by
  obtain ⟨t, ht⟩ := t; have := cfg_N; exact Fin.ext (by simp only [point]; omega)

theorem windows_eq (Φ : Fin cfg0.W → sProp (MT nD τ sig Unit (Elt F) ℕ UU ℕ)) : bigSep Finset.univ Φ = iprop(Φ (0 : Fin 2) ∗ Φ (1 : Fin 2)) := bigSep_W0 Φ

/-- A staging buffer holding `X`. -/
abbrev staged (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem whole_eq (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

/-! ## The body -/

def entry : sProp 𝕄 :=
  iprop(before m c ∗ (dats ρ m 0 c).owesAt () point.castSucc
    ∗ (∃ d, staged c cc0_stg0_0 ((dats ρ m 0 c).before (0 : Fin 2) point d)) ∗ (∃ d, staged c cc0_stg1_0 ((dats ρ m 0 c).before (1 : Fin 2) point d)))
def exit : sProp 𝕄 :=
  iprop(after m c ∗ (dats ρ m 0 c).owesAt () point.succ ∗ staged c cc0_stg0_0 (stagedX m c) ∗ staged c cc0_stg1_0 (stagedW m c))

theorem private_parts : iprop(private' (F := F) c
      ∗ (cred (tallyAt (barCell c) () 2) ∗ bigSep Finset.univ fun i => cred (tallyAt (recvCell c i) () (amt i))))
    ⊢ iprop(idles (F := F) c ∗ barIn (F := F) c ∗ bigSep Finset.univ (sIn (F := F) c) ∗ bigSep Finset.univ (rIn (F := F) c)) := by
  have es : bigSep Finset.univ (sIn (F := F) c) = iprop((bigSep Finset.univ fun i => dutyTok ER (sendCell c i) 0 false)
      ∗ (bigSep Finset.univ fun i => dutyTok ER (recvCell (peer (cright i) c) i) 0 false) ∗ bigSep Finset.univ fun i => atPos ER (sendCell c i) 0 ∅ 0) := by
    unfold sIn; rw [bigSep_sep', bigSep_sep']
  have er : bigSep Finset.univ (rIn (F := F) c) = iprop((bigSep Finset.univ fun i => cred (tallyAt (recvCell c i) () (amt i)))
      ∗ bigSep Finset.univ fun i => atPos ER (recvCell c i) 0 ∅ 0) := by
    unfold rIn; rw [bigSep_sep']
  rw [es, er]
  unfold private' dealt barIn
  rw [cells_eq]
  iintro ⟨⟨⟨Hab, Har, Has⟩, ⟨⟨Hb1, Hb2⟩, Htr, Hts⟩, Hid⟩, Hcb, Hcr⟩
  isplitl [Hid]; · iexact Hid
  isplitl [Hb1 Hb2 Hcb Hab]
  · isplitl [Hb1]; · iexact Hb1
    isplitl [Hb2]; · iexact Hb2
    isplitl [Hcb]; · iexact Hcb
    iexact Hab
  isplitl [Hts Htr Has]
  · isplitl [Hts]; · iexact Hts
    isplitl [Htr]; · iexact Htr
    iexact Has
  isplitl [Hcr]; · iexact Hcr
  iexact Har

theorem body_entry : entry ρ m c ⊢ iprop(∃ K f0 f1, ⌜k0_pay1 (f0 zero1) (f1 zero1) = sc m c ∧ f0 = stagedX m c ∧ f1 = stagedW m c⌝ ∗ scales (F := F) c f0 f1 ∗ bodyIn m K c) := by
  unfold entry before start opened Dat.owesAt Pipeline.owesWithin
  iintro ⟨⟨⟨⟨⟨%K, Hsh, Hpr⟩, Hlev⟩, Hhbm, Hcr⟩, Hscr⟩, ⟨%W, %hW, HO⟩, ⟨%d0, %g0, %hg0, Hx⟩, ⟨%d1, %g1, %hg1, Hw⟩⟩
  have h0 : g0 = stagedX m c := hg0.trans (by unfold Dat.before; rw [if_pos (fetch0_0 point)]; rfl)
  have h1 : g1 = stagedW m c := hg1.trans (by unfold Dat.before; rw [if_pos (fetch0_1 point)]; rfl)
  subst h0 h1
  iexists K, (stagedX m c), (stagedW m c)
  isplitr; · ipureintro; exact ⟨staged_sc m c, rfl, rfl⟩
  isplitl [Hx Hw]
  · unfold scales; isplitl [Hx]; · iexact Hx
    iexact Hw
  ihave Hp := (private_parts (F := F) c) $$ [Hpr Hcr]
  · isplitl [Hpr]; · iexact Hpr
    iexact Hcr
  icases Hp with ⟨Hid, Hb, Hs, Hr⟩
  unfold bodyIn
  isplitl [Hsh Hlev]
  · unfold Env shared; isplitl [Hsh]; · iexact Hsh
    iexact Hlev
  isplitl [Hhbm]; · iexact Hhbm
  isplitl [Hscr]; · iexact Hscr
  isplitl [Hid]; · iexact Hid
  isplitl [Hb]; · iexact Hb
  isplitl [Hs]; · iexact Hs
  isplitl [Hr]; · iexact Hr
  iexists W; iexact HO

theorem body_exit : iprop(scales (F := F) c (stagedX m c) (stagedW m c) ∗ bodyOut m c) ⊢ exit ρ m c := by
  unfold exit after ended bodyOut scales Ow Dat.owesAt Pipeline.owesWithin
  rw [ownSems_eq, barSem_eq]
  iintro ⟨⟨Hx, Hw⟩, Hhbm, Hscr, Hid, Hb, Hs, Hr, ⟨%W, HO⟩⟩
  isplitl [Hhbm Hscr Hid Hb Hs Hr]
  · isplitl [Hhbm Hb]
    · isplitl [Hhbm]; · iexact Hhbm
      iexact Hb
    isplitl [Hr Hs Hid]
    · isplitl [Hr Hs]
      · isplitl [Hr]; · iexact Hr
        iexact Hs
      iexact Hid
    iexact Hscr
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hw

theorem body_ok : entry ρ m c ⊢ run c (cc0_body (F := F) (Memref.whole cc0_stg0_0) (Memref.isWhole_whole _) (Memref.whole cc0_stg1_0) (Memref.isWhole_whole _)
    aM (Memref.isWhole_whole _) bM (Memref.isWhole_whole _) yM (Memref.isWhole_whole _) gM (Memref.isWhole_whole _) vM (Memref.isWhole_whole _) wM (Memref.isWhole_whole _)
    xM (Memref.isWhole_whole _) oM (Memref.isWhole_whole _) cc0_scratch5 cc0_scratch6 cc0_scratch7 cc0_scratch8 cc0_scratch9) fun _ => exit ρ m c := by
  iintro H
  ihave H := (body_entry ρ m c) $$ H
  icases H with ⟨%K, %f0, %f1, %h, H⟩
  obtain ⟨h, rfl, rfl⟩ := h
  iapply (body_run m K c (Q := fun _ => exit ρ m c) _ _ h)
  isplitl [H]; · iexact H
  iintro H
  iapply (body_exit ρ m c)
  iexact H

set_option maxRecDepth 20000 in
theorem body_obligation : BodyObligation (dats ρ m 0 c) (defs₀ (F := F)) 𝒱₀ () Set.univ := fun t => by
  rw [eq_point t]
  rw [windows_eq, windows_eq]
  simp only [whole_eq]
  exact body_ok ρ m c

/-! ## The launch -/

theorem share_full (w : Fin cfg0.W) : (dats ρ m 0 c).share w = fullShare := by unfold Dat.share; split <;> rfl

theorem rest_eq (V : (b : Ref sig .tc) → Buf (Elt F) ((c.tc : Thread nD τ).loc b)) :
    (Pipeline.unscopedRestP (Ix := Unit) (Name := ℕ) (U := UU) (Lvl := ℕ) Pipeline.Prefetch.none cfg0.spec c V : sProp 𝕄)
      = iprop(((c : Thread nD τ).loc main_arg0 ↦{fullShare} V main_arg0) ∗ ((c : Thread nD τ).loc main_arg1 ↦{fullShare} V main_arg1) ∗ ((c : Thread nD τ).loc main_v1 ↦{fullShare} V main_v1)) :=
  Pipeline.unscopedRestP_eq_of_list cfg0.spec c Pipeline.Prefetch.none V [main_arg0, main_arg1, main_v1] (by decide) (by decide)

theorem launch_in : iprop(Pipeline.unscopedRestP Pipeline.Prefetch.none cfg0.spec c (fun b => m ((c : Thread nD τ).loc b)) ∗ levAts L lv
      ∗ Pipeline.launchCred owe₀ c ∗ prngReg c (ρ c) ∗ opened m c)
    ⊢ (|={Set.univ}=> iprop(start m c ∗ emp) : sProp 𝕄) := by
  rw [rest_eq]
  iintro ⟨⟨Ha, Hb, Hy⟩, Hlev, Hcr, -, HG⟩
  ihave Hc := (credits (F := F) c) $$ Hcr
  imodintro
  unfold start hbmIn
  isplitl
  · isplitl [HG Hlev]
    · isplitl [HG]; · iexact HG
      iexact Hlev
    isplitl [Ha Hb Hy]
    · isplitl [Ha]; · iexact Ha
      isplitl [Hb]; · iexact Hb
      iexists _; iexact Hy
    iexact Hc
  · iempintro

theorem region_in : iprop(start m c ∗ Pipeline.prefHeld Pipeline.Prefetch.none c (fun _ => fullShare.right) (fun k => k.elim0) ∗ Pipeline.scopedRest cfg0.spec c)
    ⊢ (dats ρ m 0 c).Φ 0 := by
  rw [show (dats ρ m 0 c).Φ 0 = before m c from rfl, scopedRest0_eq]
  unfold before scratch
  iintro ⟨Hs, -, Hr⟩
  isplitl [Hs]; · iexact Hs
  iexact Hr

theorem region_out : (dats ρ m 0 c).Φ (Fin.last cfg0.N) ⊢ iprop(ended m c ∗ Pipeline.ownSems0 scopedSem c ∗ Pipeline.scopedRest cfg0.spec c) := by
  rw [show (dats ρ m 0 c).Φ (Fin.last cfg0.N) = after m c from rfl, scopedRest0_eq]
  exact .rfl

theorem waits_ok : (levAts L lv : sProp 𝕄) ⊢ Pipeline.cellsWaits cfgs (dats ρ m) () 0 c :=
  Pipeline.cellsWaits_intro cfgs (dats ρ m) () 0 c fun w s t =>
    mayWait_stage c _ (by fin_cases w <;> fin_cases s <;> decide) _ (by
      rcases t with ⟨_ | _, ht⟩
      · exact Or.inl rfl
      · exact Or.inr rfl)

/-- What is read off device `c`'s memory at the end, but the staged operands. -/
def Ends (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ Made m c (s.mem ((c : Thread nD τ).loc main_v1)) ∧ ∀ sm : SemLoc sig, sm.isScoped .tc = false → s.sem ((c.tc : Thread nD τ), sm) = 0

theorem read_end (s' : Phys nD τ sig (Elt F)) : iprop(ended m c ∗ emp ∗ SI s') ⊢ (|={Set.univ}=> iprop(⌜Ends m c s'.mem⌝ ∗ SI s') : sProp 𝕄) := by
  unfold ended hbmOut
  iintro ⟨⟨⟨Ha, Hb, ⟨%f, %hf, Hy⟩⟩, Hu⟩, -, HSI⟩
  icombine HSI Ha gives %ha
  icombine HSI Hb gives %hb
  icombine HSI Hy gives %hy
  imod (Pipeline.unscopedSems0_read (X := unscopedSems0 c) (c := c) fupd_intro s') $$ [Hu HSI] with ⟨%hs, HSI⟩
  · isplitl [Hu] <;> iassumption
  imodintro
  isplitr
  · ipureintro; exact ⟨funext fun i => ha i (Finset.mem_univ i), funext fun i => hb i (Finset.mem_univ i),
      (funext fun i => hy i (Finset.mem_univ i) : _ = f) ▸ hf, hs⟩
  iexact HSI

/-- The operands as they were and the result made, on every device; every semaphore at zero. -/
def Good (r : PUnit × MemSt nD τ sig (Elt F)) : Prop :=
  (∀ c : Dev nD, r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_arg3) = m ((c : Thread nD τ).loc main_arg3)
    ∧ Made m c (r.2.mem ((c : Thread nD τ).loc main_v1))) ∧ r.2.sem = fun _ => 0

set_option maxRecDepth 8000 in
/-- For any float values, from any memory with zero counters, every weakly fair execution ends well. -/
theorem run_main : θ_run defs (onTc (τ := τ) (main (F := F))) (s₀ m ρ) (Good m) :=
  Pipeline.θ_run_region_owing_glob_pf (fun p => (cfgs p).toPCfg) (fun p => (cfgs p).toPCfg_adm) (dats ρ m) () cellOf_inj (0 : Fin 1)
    winFacts0.to₀ scopedFacts (Pipeline.PreFacts.none _) EP defs₀ 𝒱₀ m ρ main
    (hmain := fun _ => rfl)
    (hbody := body_obligation ρ m) (hne := fun w => by fin_cases w <;> exact Nat.succ_pos _) (harr := arr_whole0) (hstage := stage_whole0) (hshare := share_full ρ m)
    (hdistinct := winFacts0.arr_inj)
    (O₀ := owe₀) (howed₀ := fun _ => rfl) (howedN := fun _ => rfl)
    (L := L) (lv := lv) (hL := L_of_ne) (hwaits := waits_ok ρ m)
    (G := given m) (G' := opened m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod ((show BI.own ((((Emb.inl : Emb UB (UB × Counters)).trans embR) : Emb UB 𝕄) (initOf allCells allPays)) ⊢ BI.own (ER (F := F) (initOf allCells allPays)) from .rfl).trans
        (fund_all m)) $$ HX with HG
      imodintro
      isplitl [HP] <;> iassumption)
    (hglob := open_all m)
    (hA := fun _ _ => rfl) (hpf := fun _ k => k.elim0)
    (X := start m) (Y := ended m) (Z := fun _ => iprop(emp))
    (hX := launch_in ρ m) (hin := region_in ρ m) (hout := region_out ρ m)
    (QY := Ends m) (hY := read_end m)
    (hQ := fun s h hs => ⟨fun c => by
        obtain ⟨hw, -, h0, h1, hv, -⟩ := h c
        exact ⟨h0, h1, (hw (0 : Fin 2)).trans ((dats ρ m 0 c).arrAt_in (0 : Fin 2) rfl _), (hw (1 : Fin 2)).trans ((dats ρ m 0 c).arrAt_in (1 : Fin 2) rfl _), hv⟩,
      sem_eq_zero hs fun c => (h c).2.2.2.2.2⟩)

end Cert.RingGemm

end
-- ==== Proof.Value.lean ====
/-
# The value of the result over the reals

Over the reals a cast is the identity, so a tile is the rows of some device times this device's columns, scaled and cut off
at zero; the twelve tiles are together the columns of the reference's result that this device holds.
-/
module

public import proofs.«01_k».proof.Proof.Tiles
public import proofs.«01_k».proof.Proof.Gen.ReferenceIdeal.Run
public import Idealize.ShloMosaic.Lib.Pointwise
public import Idealize.ShloMosaic.Lib.Layout

@[expose] public section

noncomputable section

namespace Cert.RingGemm

open Cert.KernelIdeal Cert.KernelIdeal.Gen
open Idealize.ShloMosaic
open Idealize.ShloMosaic.TcCoe

/-- An element of the result: a row times a column, scaled and cut off at zero. -/
abbrev cell (x w : Fin 4096 → EReal) (s : EReal) : EReal := max ((∑ k, x k * w k) * s) 0

theorem cell_congr {x x' w w' : Fin 4096 → EReal} {s s' : EReal} (hx : ∀ k, x k = x' k) (hw : ∀ k, w k = w' k) (hs : s = s') : cell x w s = cell x' w' s' := by
  rw [show x = x' from funext hx, show w = w' from funext hw, hs]

/-! ## The tiles -/

theorem tile512 (s : Ideal .f32) (g : Vec Ideal S1x512x4096 .fp8e5m2) (v : Vec Ideal S4096x2048 .fp8e5m2) (x : S1x512x2048.Idx) :
    k0_pay17 s g v x = cell (fun k => g (ix3 (0 : Fin 1) (x 1) k)) (fun k => v (ix2 k (x 2))) s := by
  unfold k0_pay17; pointwise
theorem tile256 (s : Ideal .f32) (g : Vec Ideal S1x256x4096 .fp8e5m2) (v : Vec Ideal S4096x2048 .fp8e5m2) (x : S1x256x2048.Idx) :
    k0_pay27 s (k0_pay26 g) v x = cell (fun k => g (ix3 (0 : Fin 1) (x 1) k)) (fun k => v (ix2 k (x 2))) s := by
  unfold k0_pay27 k0_pay26; pointwise
theorem tile128 (s : Ideal .f32) (g : Vec Ideal S1x128x4096 .fp8e5m2) (v : Vec Ideal S4096x2048 .fp8e5m2) (x : S1x128x2048.Idx) :
    k0_pay31 s (k0_pay30 g) v x = cell (fun k => g (ix3 (0 : Fin 1) (x 1) k)) (fun k => v (ix2 k (x 2))) s := by
  unfold k0_pay31 k0_pay30; pointwise

variable (m : (ℓ : Loc nD τ sig) → Buf (Elt Ideal) ℓ) (c : Dev nD)

/-- The element at row `r` of device `d`'s rows and at column `l` of device `c`'s columns. -/
def prod (d : Dev nD) (r l : ℕ) : EReal := cell (fun k => xN m d r k) (fun k => wN m c k l) (sc m c)

/-- Piece `j`, at a row and a column of it. -/
theorem piece_at (j : Fin 12) (r l : ℕ) (hr : r < on j) (hl : l < 2048) : PV m c j r l = prod m c (own c (oslot j)) (olo j + r) l := by
  have e512 (s lo : ℕ) (h : r < 512) : P512 m c s lo r l = prod m c (own c s) (lo + r) l := by
    unfold P512
    rw [tile512]
    show cell (fun k => xN m (own c s) (lo + r % 512) k) (fun k => wN m c k (l % 2048)) (sc m c) = _
    rw [Nat.mod_eq_of_lt h, Nat.mod_eq_of_lt hl]; rfl
  have e256 (s lo : ℕ) (h : r < 256) : P256 m c s lo r l = prod m c (own c s) (lo + r) l := by
    unfold P256
    rw [tile256]
    show cell (fun k => xN m (own c s) (lo + r % 256) k) (fun k => wN m c k (l % 2048)) (sc m c) = _
    rw [Nat.mod_eq_of_lt h, Nat.mod_eq_of_lt hl]; rfl
  have e128 (s lo : ℕ) (h : r < 128) : P128 m c s lo r l = prod m c (own c s) (lo + r) l := by
    unfold P128
    rw [tile128]
    show cell (fun k => xN m (own c s) (lo + r % 128) k) (fun k => wN m c k (l % 2048)) (sc m c) = _
    rw [Nat.mod_eq_of_lt h, Nat.mod_eq_of_lt hl]; rfl
  fin_cases j
  · exact e512 _ _ hr
  · exact e512 _ _ hr
  · exact e512 _ _ hr
  · exact e512 _ _ hr
  · exact e512 _ _ hr
  · exact e512 _ _ hr
  · exact e256 _ _ hr
  · exact e256 _ _ hr
  · exact e128 _ _ hr
  · exact e128 _ _ hr
  · exact e128 _ _ hr
  · exact e128 _ _ hr

/-- The result made of the twelve pieces, at an index. -/
theorem made_at (f : Buf (Elt Ideal) ((c : Thread nD τ).loc main_v1)) (h : Made m c f) (i : S4096x2048.Idx) (d : Dev nD) (hd : d.val = (i 0).val / 1024) :
    f i = prod m c d ((i 0).val % 1024) (i 1).val := by
  have hi0 : (i 0).val < 4096 := (i 0).isLt
  have hi1 : (i 1).val < 2048 := (i 1).isLt
  obtain ⟨j, hj, hlo, hhi⟩ := piece_cover c ((i 0).val / 1024) ((i 0).val % 1024) (by omega) (Nat.mod_lt _ (by decide))
  have ej : own c (oslot j) = d := Fin.ext (hj.trans hd.symm)
  have e0 : ooff c j 0 = 1024 * ((i 0).val / 1024) + olo j := by rw [ooff_eq, ← hj]; rfl
  have e1 : ooff c j 1 = 0 := by rw [ooff_eq]; rfl
  have hm : i ∈ box (s := S4096x2048) (ooff c j) ![on j, 2048] := mem_box.mpr fun a => by
    fin_cases a
    · show ooff c j 0 ≤ (i 0).val ∧ (i 0).val < ooff c j 0 + on j
      rw [e0]; omega
    · show ooff c j 1 ≤ (i 1).val ∧ (i 1).val < ooff c j 1 + 2048
      rw [e1]; omega
  rw [h j i hm]
  unfold Y
  rw [e0, e1, piece_at m c j _ _ (by omega) (by omega), ej]
  congr 1
  omega

/-! ## The reference -/

variable (X : FVec Ideal Cert.ReferenceIdeal.S4096x4096 .f32) (W : FVec Ideal Cert.ReferenceIdeal.S4096x8192 .f32) (a b : FVec Ideal Cert.ReferenceIdeal.S1 .f32)

open Cert.ReferenceIdeal.Facts₀ in
/-- The reference's result. -/
def whole : FVec Ideal Cert.ReferenceIdeal.S4096x8192 .f32 :=
  maximumf (mulf (Host.dotGeneral Cert.ReferenceIdeal.dot_S4096x4096_S4096x8192_S4096x8192_1_0_0_1_n_n none X W)
      (broadcastInDim Cert.ReferenceIdeal.S4096x8192 ![0, 1] bcast_S1x1_S4096x8192_0_1 (broadcastInDim Cert.ReferenceIdeal.S1x1 ![1] bcast_S1_S1x1_1 (mulf a b))))
    (broadcastInDim Cert.ReferenceIdeal.S4096x8192 ![] bcast_S_S4096x8192 (constant Cert.ReferenceIdeal.S_ .f32 0x00000000#32))

theorem whole_at (i : Cert.ReferenceIdeal.S4096x8192.Idx) : whole X W a b i = cell (fun k => X (ix2 (i 0) k)) (fun k => W (ix2 k (i 1))) (a zero1 * b zero1) := by
  unfold whole; pointwise; rfl

/-- Device `c`'s result is its block of columns of the reference's. -/
theorem made_block (hX : ∀ d : Dev nD, m ((d : Thread nD τ).loc main_arg0) = Layout.block ⟨2, ![1024, 4096]⟩ ⟨2, ![4096, 4096]⟩ 0 4 d X)
    (hW : m ((c : Thread nD τ).loc main_arg1) = Layout.block ⟨2, ![4096, 2048]⟩ ⟨2, ![4096, 8192]⟩ 1 4 c W)
    (ha : m ((c : Thread nD τ).loc main_arg2) = a) (hb : m ((c : Thread nD τ).loc main_arg3) = b)
    (f : Buf (Elt Ideal) ((c : Thread nD τ).loc main_v1)) (h : Made m c f) :
    f = Layout.block ⟨2, ![4096, 2048]⟩ ⟨2, ![4096, 8192]⟩ 1 4 c (whole X W a b) := by
  funext i
  have hi0 : (i 0).val < 4096 := (i 0).isLt
  have hi1 : (i 1).val < 2048 := (i 1).isLt
  rw [made_at m c f h i ⟨(i 0).val / 1024, by show _ < 4; omega⟩ rfl, Layout.block_apply, whole_at]
  unfold prod sc xN wN
  rw [hX, hW, ha, hb]
  refine cell_congr (fun k => congrArg X ?_) (fun k => congrArg W ?_) rfl
  · have hk := k.isLt
    funext p; refine Fin.ext ?_
    fin_cases p
    · show (i 0).val / 1024 * 1024 + (i 0).val % 1024 % 1024 = (i 0).val; omega
    · show k.val % 4096 = k.val; omega
  · have hk := k.isLt
    funext p; refine Fin.ext ?_
    fin_cases p
    · show k.val % 4096 = k.val; omega
    · show c.val * 2048 + (i 1).val % 2048 = c.val * 2048 + (i 1).val; omega

end Cert.RingGemm

end
-- ==== Proof.Same.lean ====
/-
# The kernel and its idealization run the same bodies

No operation of the kernel is replaced, so the two programs have one text, and their tables of bodies are equal at any
float values. The table reads its label by cases, so the equality is stated label by label; the body itself is one term.
-/
module

public import proofs.«01_k».proof.Proof.Gen.Kernel
public import proofs.«01_k».proof.Proof.Gen.KernelIdeal

@[expose] public section

noncomputable section

namespace Cert.RingGemm

open Idealize.ShloMosaic

variable {F : FTy → Type} [FloatOps F]

/-- The kernels' own bodies agree: on the tensor core there is one label, elsewhere none. -/
theorem bodies_same : Kernel.defs₀ (F := F) = KernelIdeal.defs₀ (F := F) := by
  funext k
  cases k with
  | tc =>
    funext l a
    match l, a with
    | ⟨0, _⟩, (t, s) => rfl
    | ⟨_ + 1, h⟩, _ => exact absurd h (Nat.not_lt.2 (Nat.le_add_left _ _))
  | scScalar _ => rfl
  | scVector _ _ => rfl

/-- So the pipelined tables agree. -/
theorem defs_same : Kernel.defs (F := F) = KernelIdeal.defs (F := F) :=
  congrArg (Pipeline.defs KernelIdeal.pcfgs) bodies_same

end Cert.RingGemm

end
-- ==== Proof.lean ====
/-
# The five claims

The run, proved once for any float values, is both frames; its instance at the reals with the value of the twelve tiles is
the algebraic claim. The reference's frame is its generated run.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem

/-- Frame of the kernel: the run at machine floats, carried over by the equality of the two tables. -/
theorem frame_kernel : Cert.quiescent_Kernel := fun m ρ _ => by
  show θ_run (Cert.Kernel.defs (F := Bits)) _ _ _
  rw [Cert.RingGemm.defs_same]
  exact (θ_run Cert.KernelIdeal.defs _ _).mono
    (fun _ h => ⟨fun c => ⟨(h.1 c).1, (h.1 c).2.1, (h.1 c).2.2.1, (h.1 c).2.2.2.1⟩, h.2⟩)
    (Cert.RingGemm.run_main (F := Bits) ρ m)

/-- Frame of the idealized kernel: the run at the reals. -/
theorem frame_ideal : Cert.quiescent_KernelIdeal := fun m ρ _ =>
  (θ_run Cert.KernelIdeal.defs _ _).mono (fun _ h => ⟨fun c => ⟨(h.1 c).1, (h.1 c).2.1, (h.1 c).2.2.1, (h.1 c).2.2.2.1⟩, h.2⟩)
    (Cert.RingGemm.run_main (F := Ideal) ρ m)

/-- Frame of the reference: its generated run; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The value: on matching arguments every device ends with its columns of the reference's result. -/
theorem value : Cert.algebraic_KernelIdeal_ReferenceIdeal := fun m ρ m' ρ' _ hl =>
  ⟨Cert.RingGemm.whole (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)),
    (θ_run Cert.KernelIdeal.defs _ _).mono
      (fun _ h c => ⟨Cert.RingGemm.made_block m c _ _ _ _ (fun d => (hl d).1) (hl c).2.1 (hl c).2.2.1 (hl c).2.2.2 _ (h.1 c).2.2.2.2,
        (h.1 c).1, (h.1 c).2.1, (h.1 c).2.2.1, (h.1 c).2.2.2.1⟩)
      (Cert.RingGemm.run_main (F := Ideal) ρ m),
    (θ_run Cert.ReferenceIdeal.defs _ _).mono (fun _ h => h 0) (Cert.ReferenceIdeal.Value.run (F := Ideal) m' ρ')⟩

/-- The five claims. -/
theorem claim : Cert.Claim := ⟨Cert.Kernel.Gen.facts, Cert.KernelIdeal.Gen.facts, Cert.ReferenceIdeal.Gen.facts,
  frame_kernel, frame_ideal, frame_reference, trivial, value⟩

end Cert.Proof

end
